-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_gates_finite [hPre_gates_finite : Cert.Pre_gates_finite.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_gates_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).1 = (fun _ => 1#1)
    ∧ (Cert.Pre_gates_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))).2 = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_gates_finite [hPre_gates_finite : Cert.Pre_gates_finite.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_gates_finite.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2))).1 = (fun _ => 1#1)
    ∧ (Cert.Pre_gates_finite.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_channels_finite [hPre_channels_finite : Cert.Pre_channels_finite.Facts] (m : (ℓ : Loc Cert.FourierIdeal.nD Cert.FourierIdeal.τ Cert.FourierIdeal.sig) → Buf (Elt Ideal) ℓ) : Prop :=
  ∀ c : Dev Cert.FourierIdeal.nD,
    (Cert.Pre_channels_finite.fn (F := Ideal) (m ((c.tc : Thread Cert.FourierIdeal.nD Cert.FourierIdeal.τ).loc Cert.FourierIdeal.main_arg0))) = (fun _ => 1#1)

def Pre_FourierReferenceIdeal (m : (ℓ : Loc Cert.FourierReferenceIdeal.nD Cert.FourierReferenceIdeal.τ Cert.FourierReferenceIdeal.sig) → Buf (Elt Ideal) ℓ) : Prop :=
  True

def Pre_FourierReferenceIdeal_channels_finite [hPre_channels_finite : Cert.Pre_channels_finite.Facts] (m : (ℓ : Loc Cert.FourierReferenceIdeal.nD Cert.FourierReferenceIdeal.τ Cert.FourierReferenceIdeal.sig) → Buf (Elt Ideal) ℓ) : Prop :=
  ∀ c : Dev Cert.FourierReferenceIdeal.nD,
    (Cert.Pre_channels_finite.fn (F := Ideal) (m ((c.tc : Thread Cert.FourierReferenceIdeal.nD Cert.FourierReferenceIdeal.τ).loc Cert.FourierReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectIdeal_pre_gates_finite [hProjectIdeal : Cert.ProjectIdeal.Facts] [hPre_gates_finite : Cert.Pre_gates_finite.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_gates_finite m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_ProjectReferenceIdeal_pre_gates_finite [hProjectReferenceIdeal : Cert.ProjectReferenceIdeal.Facts] [hPre_gates_finite : Cert.Pre_gates_finite.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_gates_finite m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ r.2.sem = fun _ => 0)

def quiescent_FourierIdeal_pre_channels_finite [hFourierIdeal : Cert.FourierIdeal.Facts] [hPre_channels_finite : Cert.Pre_channels_finite.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_channels_finite m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0))
      ∧ r.2.sem = fun _ => 0)

def quiescent_FourierReferenceIdeal_pre_channels_finite [hFourierReferenceIdeal : Cert.FourierReferenceIdeal.Facts] [hPre_channels_finite : Cert.Pre_channels_finite.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal_channels_finite m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Project_ProjectIdeal : Prop :=
  IdealRules.named_const.Statement Cert.ProjectIdeal.κ "inv_f8_max" .f32 0x3B124925#32 ((1 / 448 : ℝ) : EReal)

def algebraic_ProjectIdeal_ProjectReferenceIdeal_pre_gates_finite [hProjectIdeal : Cert.ProjectIdeal.Facts] [hProjectReferenceIdeal : Cert.ProjectReferenceIdeal.Facts] [hPre_gates_finite : Cert.Pre_gates_finite.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_gates_finite m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v16)) (v1 : (c : Dev Cert.ProjectIdeal.nD) → Buf (Elt Ideal) ((c.tc : Thread Cert.ProjectIdeal.nD Cert.ProjectIdeal.τ).loc Cert.ProjectIdeal.main_v18)) (v2 : (c : Dev Cert.ProjectIdeal.nD) → Buf (Elt Ideal) ((c.tc : Thread Cert.ProjectIdeal.nD Cert.ProjectIdeal.τ).loc Cert.ProjectIdeal.main_v20)) (v3 : (c : Dev Cert.ProjectIdeal.nD) → Buf (Elt Ideal) ((c.tc : Thread Cert.ProjectIdeal.nD Cert.ProjectIdeal.τ).loc Cert.ProjectIdeal.main_v22)) (v4 : (c : Dev Cert.ProjectIdeal.nD) → Buf (Elt Ideal) ((c.tc : Thread Cert.ProjectIdeal.nD Cert.ProjectIdeal.τ).loc Cert.ProjectIdeal.main_v24)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16) = v0 c
          ∧ r.2.mem ((c.tc : Thread Cert.ProjectIdeal.nD Cert.ProjectIdeal.τ).loc Cert.ProjectIdeal.main_v18) = v1 c
          ∧ r.2.mem ((c.tc : Thread Cert.ProjectIdeal.nD Cert.ProjectIdeal.τ).loc Cert.ProjectIdeal.main_v20) = v2 c
          ∧ r.2.mem ((c.tc : Thread Cert.ProjectIdeal.nD Cert.ProjectIdeal.τ).loc Cert.ProjectIdeal.main_v22) = v3 c
          ∧ r.2.mem ((c.tc : Thread Cert.ProjectIdeal.nD Cert.ProjectIdeal.τ).loc Cert.ProjectIdeal.main_v24) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v19) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v16) = v2 c
          ∧ r.2.mem ((c.tc : Thread Cert.ProjectReferenceIdeal.nD Cert.ProjectReferenceIdeal.τ).loc Cert.ProjectReferenceIdeal.main_v20) = v3 c
          ∧ r.2.mem ((c.tc : Thread Cert.ProjectReferenceIdeal.nD Cert.ProjectReferenceIdeal.τ).loc Cert.ProjectReferenceIdeal.main_v27) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5)) (v1 : (c : Dev Cert.MergeIdeal.nD) → Buf (Elt Ideal) ((c.tc : Thread Cert.MergeIdeal.nD Cert.MergeIdeal.τ).loc Cert.MergeIdeal.main_v7_0)) (v2 : (c : Dev Cert.MergeIdeal.nD) → Buf (Elt Ideal) ((c.tc : Thread Cert.MergeIdeal.nD Cert.MergeIdeal.τ).loc Cert.MergeIdeal.main_v7_1)) (v3 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_v7_0) = v1 c
          ∧ r.2.mem ((c.tc : Thread Cert.MergeIdeal.nD Cert.MergeIdeal.τ).loc Cert.MergeIdeal.main_v7_1) = v2 c
          ∧ r.2.mem ((c.tc : Thread Cert.MergeIdeal.nD Cert.MergeIdeal.τ).loc Cert.MergeIdeal.main_v9) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v16) = v0 c
          ∧ r.2.mem ((c.tc : Thread Cert.MergeReferenceIdeal.nD Cert.MergeReferenceIdeal.τ).loc Cert.MergeReferenceIdeal.main_v31) = v1 c
          ∧ r.2.mem ((c.tc : Thread Cert.MergeReferenceIdeal.nD Cert.MergeReferenceIdeal.τ).loc Cert.MergeReferenceIdeal.main_v33) = v2 c
          ∧ r.2.mem ((c.tc : Thread Cert.MergeReferenceIdeal.nD Cert.MergeReferenceIdeal.τ).loc Cert.MergeReferenceIdeal.main_v34) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v14) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_Fourier_FourierIdeal : Prop :=
  True

def algebraic_FourierIdeal_FourierReferenceIdeal_pre_channels_finite [hFourierIdeal : Cert.FourierIdeal.Facts] [hFourierReferenceIdeal : Cert.FourierReferenceIdeal.Facts] [hPre_channels_finite : Cert.Pre_channels_finite.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal_channels_finite m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)) →
    ∃ (v0 : (c : Dev Cert.FourierIdeal.nD) → Buf (Elt Ideal) ((c.tc : Thread Cert.FourierIdeal.nD Cert.FourierIdeal.τ).loc Cert.FourierIdeal.main_v36)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v36) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          r.2.mem ((c.tc : Thread Cert.FourierReferenceIdeal.nD Cert.FourierReferenceIdeal.τ).loc Cert.FourierReferenceIdeal.main_v57) = v0 c
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hMerge : Cert.Merge.Facts) (hMergeIdeal : Cert.MergeIdeal.Facts) (hMergeReferenceIdeal : Cert.MergeReferenceIdeal.Facts) (hLast : Cert.Last.Facts) (hLastIdeal : Cert.LastIdeal.Facts) (hLastReferenceIdeal : Cert.LastReferenceIdeal.Facts) (hFourier : Cert.Fourier.Facts) (hFourierIdeal : Cert.FourierIdeal.Facts) (hFourierReferenceIdeal : Cert.FourierReferenceIdeal.Facts) (hPre_scores_finite : Cert.Pre_scores_finite.Facts) (hPre_gates_finite : Cert.Pre_gates_finite.Facts) (hPre_channels_finite : Cert.Pre_channels_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Project (hProject := hProject)
    ∧ quiescent_ProjectIdeal (hProjectIdeal := hProjectIdeal)
    ∧ quiescent_ProjectIdeal_pre_gates_finite (hProjectIdeal := hProjectIdeal) (hPre_gates_finite := hPre_gates_finite)
    ∧ quiescent_ProjectReferenceIdeal (hProjectReferenceIdeal := hProjectReferenceIdeal)
    ∧ quiescent_ProjectReferenceIdeal_pre_gates_finite (hProjectReferenceIdeal := hProjectReferenceIdeal) (hPre_gates_finite := hPre_gates_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Last (hLast := hLast)
    ∧ quiescent_LastIdeal (hLastIdeal := hLastIdeal)
    ∧ quiescent_LastReferenceIdeal (hLastReferenceIdeal := hLastReferenceIdeal)
    ∧ quiescent_Fourier (hFourier := hFourier)
    ∧ quiescent_FourierIdeal (hFourierIdeal := hFourierIdeal)
    ∧ quiescent_FourierIdeal_pre_channels_finite (hFourierIdeal := hFourierIdeal) (hPre_channels_finite := hPre_channels_finite)
    ∧ quiescent_FourierReferenceIdeal (hFourierReferenceIdeal := hFourierReferenceIdeal)
    ∧ quiescent_FourierReferenceIdeal_pre_channels_finite (hFourierReferenceIdeal := hFourierReferenceIdeal) (hPre_channels_finite := hPre_channels_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Project_ProjectIdeal
    ∧ algebraic_ProjectIdeal_ProjectReferenceIdeal_pre_gates_finite (hProjectIdeal := hProjectIdeal) (hProjectReferenceIdeal := hProjectReferenceIdeal) (hPre_gates_finite := hPre_gates_finite)
    ∧ preserves_Merge_MergeIdeal
    ∧ algebraic_MergeIdeal_MergeReferenceIdeal (hMergeIdeal := hMergeIdeal) (hMergeReferenceIdeal := hMergeReferenceIdeal)
    ∧ preserves_Last_LastIdeal
    ∧ algebraic_LastIdeal_LastReferenceIdeal (hLastIdeal := hLastIdeal) (hLastReferenceIdeal := hLastReferenceIdeal)
    ∧ preserves_Fourier_FourierIdeal
    ∧ algebraic_FourierIdeal_FourierReferenceIdeal_pre_channels_finite (hFourierIdeal := hFourierIdeal) (hFourierReferenceIdeal := hFourierReferenceIdeal) (hPre_channels_finite := hPre_channels_finite)
-- ==== Pre_channels_finite.lean ====
abbrev S12x2048x1024 : Shape := ⟨3, ![12, 2048, 1024]⟩
abbrev S_ : Shape := ⟨0, ![]⟩

class Facts : Prop where
  bitsLt_bf16_f32 : FTy.bits .bf16 < FTy.bits .f32
  bcast_S_S12x2048x1024 : S_.BroadcastsInDim S12x2048x1024 (![] : Fin 0 → Fin S12x2048x1024.rank)

variable [Facts]

def fn {F : FTy → Type} [FloatOps F] (main_arg0 : FVec F S12x2048x1024 .bf16) : IVec S12x2048x1024 1 :=
  let main_v0 : FVec F S12x2048x1024 .f32 := (extf .f32 · bitsLt_bf16_f32) main_arg0
  let main_v1 : FVec F S12x2048x1024 .f32 := Host.absf main_v0
  let main_cst : FVec F S_ .f32 := constant S_ .f32 0x7F800000#32
  let main_v2 : FVec F S12x2048x1024 .f32 := broadcastInDim S12x2048x1024 ![] bcast_S_S12x2048x1024 main_cst
  let main_v3 : IVec S12x2048x1024 1 := cmpf .olt main_v1 main_v2
  main_v3
-- ==== Pre_gates_finite.lean ====
abbrev S24576x4096 : Shape := ⟨2, ![24576, 4096]⟩
abbrev S4096 : Shape := ⟨1, ![4096]⟩
abbrev S4096x22912 : Shape := ⟨2, ![4096, 22912]⟩
abbrev S_ : Shape := ⟨0, ![]⟩
abbrev S4096x12288 : Shape := ⟨2, ![4096, 12288]⟩

class Facts : Prop where
  bcast_S_S4096 : S_.BroadcastsInDim S4096 (![] : Fin 0 → Fin S4096.rank)
  slices_S4096x22912_S4096x12288_0_10624 : S4096x22912.Slices ![0, 10624] S4096x12288
  bcast_S_S4096x12288 : S_.BroadcastsInDim S4096x12288 (![] : Fin 0 → Fin S4096x12288.rank)

variable [Facts]

def fn {F : FTy → Type} [FloatOps F] (main_arg0 : FVec F S24576x4096 .f32) (main_arg1 : FVec F S4096 .f32) (main_arg2 : FVec F S4096x22912 .f32) : IVec S4096 1 × IVec S4096x12288 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_v3 : FVec F S4096x12288 .f32 := (extractStridedSlice S4096x12288 ![0, 10624] · slices_S4096x22912_S4096x12288_0_10624) main_arg2
  let main_v4 : FVec F S4096x12288 .f32 := Host.absf main_v3
  let main_cst_0 : FVec F S_ .f32 := constant S_ .f32 0x7F800000#32
  let main_v5 : FVec F S4096x12288 .f32 := broadcastInDim S4096x12288 ![] bcast_S_S4096x12288 main_cst_0
  let main_v6 : IVec S4096x12288 1 := cmpf .olt main_v4 main_v5
  (main_v2, main_v6)
-- ==== Pre_scores_finite.lean ====
abbrev S12x2048x3072 : Shape := ⟨3, ![12, 2048, 3072]⟩
abbrev S16x15x31 : Shape := ⟨3, ![16, 15, 31]⟩
abbrev S12x2048x2048 : Shape := ⟨3, ![12, 2048, 2048]⟩
abbrev S_ : Shape := ⟨0, ![]⟩

class Facts : Prop where
  slices_S12x2048x3072_S12x2048x2048_0_0_0 : S12x2048x3072.Slices ![0, 0, 0] S12x2048x2048
  bitsLt_bf16_f32 : FTy.bits .bf16 < FTy.bits .f32
  bcast_S_S12x2048x2048 : S_.BroadcastsInDim S12x2048x2048 (![] : Fin 0 → Fin S12x2048x2048.rank)
  bcast_S_S16x15x31 : S_.BroadcastsInDim S16x15x31 (![] : Fin 0 → Fin S16x15x31.rank)

variable [Facts]

def fn {F : FTy → Type} [FloatOps F] (main_arg0 : FVec F S12x2048x3072 .bf16) (main_arg1 : FVec F S16x15x31 .f32) : IVec S12x2048x2048 1 × IVec S16x15x31 1 :=
  let main_v0 : FVec F S12x2048x2048 .bf16 := (extractStridedSlice S12x2048x2048 ![0, 0, 0] · slices_S12x2048x3072_S12x2048x2048_0_0_0) main_arg0
  let main_v1 : FVec F S12x2048x2048 .f32 := (extf .f32 · bitsLt_bf16_f32) main_v0
  let main_v2 : FVec F S12x2048x2048 .f32 := Host.absf main_v1
  let main_cst : FVec F S_ .f32 := constant S_ .f32 0x7F800000#32
  let main_v3 : FVec F S12x2048x2048 .f32 := broadcastInDim S12x2048x2048 ![] bcast_S_S12x2048x2048 main_cst
  let main_v4 : IVec S12x2048x2048 1 := cmpf .olt main_v2 main_v3
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  (main_v4, main_v7)
-- ==== Kernel.lean ====
abbrev S12x2048x3072 : Shape := ⟨3, ![12, 2048, 3072]⟩
abbrev S16x15x31 : Shape := ⟨3, ![16, 15, 31]⟩
abbrev S64x64 : Shape := ⟨2, ![64, 64]⟩
abbrev S1x1x64x64 : Shape := ⟨4, ![1, 1, 64, 64]⟩
abbrev S_ : Shape := ⟨0, ![]⟩
abbrev S16x15x157 : Shape := ⟨3, ![16, 15, 157]⟩
abbrev S16x15x64 : Shape := ⟨3, ![16, 15, 64]⟩
abbrev S16x15x1x64 : Shape := ⟨4, ![16, 15, 1, 64]⟩
abbrev S16x15x16x64 : Shape := ⟨4, ![16, 15, 16, 64]⟩
abbrev S16x15x64x64 : Shape := ⟨4, ![16, 15, 64, 64]⟩
abbrev S16x8x64x64 : Shape := ⟨4, ![16, 8, 64, 64]⟩
abbrev S16x1x8x64x64 : Shape := ⟨5, ![16, 1, 8, 64, 64]⟩
abbrev S16x8x8x64x64 : Shape := ⟨5, ![16, 8, 8, 64, 64]⟩
abbrev S16x8x64x8x64 : Shape := ⟨5, ![16, 8, 64, 8, 64]⟩
abbrev S16x8x64x512 : Shape := ⟨4, ![16, 8, 64, 512]⟩
abbrev S12x2048x1024 : Shape := ⟨3, ![12, 2048, 1024]⟩
abbrev S1x2048x128 : Shape := ⟨3, ![1, 2048, 128]⟩
abbrev S2x8x64x512 : Shape := ⟨4, ![2, 8, 64, 512]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1x1x64x512 : Shape := ⟨4, ![1, 1, 64, 512]⟩
abbrev S64x512 : Shape := ⟨2, ![64, 512]⟩
abbrev S64 : Shape := ⟨1, ![64]⟩
abbrev S64x1 : Shape := ⟨2, ![64, 1]⟩

abbrev nBuf : Space → Nat
  | .hbm => 165
  | .vmem => 10
  | .smem => 0
  | _ => 0

abbrev hbmTy0_0 (i : Nat) : BufTy := match i % 128 with
  | 0 => ⟨S12x2048x3072, .bf16⟩
  | 1 => ⟨S16x15x31, .f32⟩
  | 2 => ⟨S64x64, .i1⟩
  | 3 => ⟨S1x1x64x64, .i1⟩
  | 4 => ⟨S_, .i32⟩
  | 5 => ⟨S_, .f32⟩
  | 6 => ⟨S16x15x157, .f32⟩
  | 7 => ⟨S16x15x64, .f32⟩
  | 8 => ⟨S16x15x64, .f32⟩
  | 9 => ⟨S16x15x64, .f32⟩
  | 10 => ⟨S16x15x64, .f32⟩
  | 11 => ⟨S16x15x64, .f32⟩
  | 12 => ⟨S16x15x64, .f32⟩
  | 13 => ⟨S16x15x64, .f32⟩
  | 14 => ⟨S16x15x64, .f32⟩
  | 15 => ⟨S16x15x64, .f32⟩
  | 16 => ⟨S16x15x64, .f32⟩
  | 17 => ⟨S16x15x64, .f32⟩
  | 18 => ⟨S16x15x64, .f32⟩
  | 19 => ⟨S16x15x64, .f32⟩
  | 20 => ⟨S16x15x64, .f32⟩
  | 21 => ⟨S16x15x64, .f32⟩
  | 22 => ⟨S16x15x64, .f32⟩
  | 23 => ⟨S16x15x64, .f32⟩
  | 24 => ⟨S16x15x64, .f32⟩
  | 25 => ⟨S16x15x64, .f32⟩
  | 26 => ⟨S16x15x64, .f32⟩
  | 27 => ⟨S16x15x64, .f32⟩
  | 28 => ⟨S16x15x64, .f32⟩
  | 29 => ⟨S16x15x64, .f32⟩
  | 30 => ⟨S16x15x64, .f32⟩
  | 31 => ⟨S16x15x64, .f32⟩
  | 32 => ⟨S16x15x64, .f32⟩
  | 33 => ⟨S16x15x64, .f32⟩
  | 34 => ⟨S16x15x64, .f32⟩
  | 35 => ⟨S16x15x64, .f32⟩
  | 36 => ⟨S16x15x64, .f32⟩
  | 37 => ⟨S16x15x64, .f32⟩
  | 38 => ⟨S16x15x64, .f32⟩
  | 39 => ⟨S16x15x64, .f32⟩
  | 40 => ⟨S16x15x64, .f32⟩
  | 41 => ⟨S16x15x64, .f32⟩
  | 42 => ⟨S16x15x64, .f32⟩
  | 43 => ⟨S16x15x64, .f32⟩
  | 44 => ⟨S16x15x64, .f32⟩
  | 45 => ⟨S16x15x64, .f32⟩
  | 46 => ⟨S16x15x64, .f32⟩
  | 47 => ⟨S16x15x64, .f32⟩
  | 48 => ⟨S16x15x64, .f32⟩
  | 49 => ⟨S16x15x64, .f32⟩
  | 50 => ⟨S16x15x64, .f32⟩
  | 51 => ⟨S16x15x64, .f32⟩
  | 52 => ⟨S16x15x64, .f32⟩
  | 53 => ⟨S16x15x64, .f32⟩
  | 54 => ⟨S16x15x64, .f32⟩
  | 55 => ⟨S16x15x64, .f32⟩
  | 56 => ⟨S16x15x64, .f32⟩
  | 57 => ⟨S16x15x64, .f32⟩
  | 58 => ⟨S16x15x64, .f32⟩
  | 59 => ⟨S16x15x64, .f32⟩
  | 60 => ⟨S16x15x64, .f32⟩
  | 61 => ⟨S16x15x64, .f32⟩
  | 62 => ⟨S16x15x64, .f32⟩
  | 63 => ⟨S16x15x64, .f32⟩
  | 64 => ⟨S16x15x64, .f32⟩
  | 65 => ⟨S16x15x64, .f32⟩
  | 66 => ⟨S16x15x64, .f32⟩
  | 67 => ⟨S16x15x64, .f32⟩
  | 68 => ⟨S16x15x64, .f32⟩
  | 69 => ⟨S16x15x64, .f32⟩
  | 70 => ⟨S16x15x64, .f32⟩
  | 71 => ⟨S16x15x1x64, .f32⟩
  | 72 => ⟨S16x15x1x64, .f32⟩
  | 73 => ⟨S16x15x1x64, .f32⟩
  | 74 => ⟨S16x15x1x64, .f32⟩
  | 75 => ⟨S16x15x1x64, .f32⟩
  | 76 => ⟨S16x15x1x64, .f32⟩
  | 77 => ⟨S16x15x1x64, .f32⟩
  | 78 => ⟨S16x15x1x64, .f32⟩
  | 79 => ⟨S16x15x1x64, .f32⟩
  | 80 => ⟨S16x15x1x64, .f32⟩
  | 81 => ⟨S16x15x1x64, .f32⟩
  | 82 => ⟨S16x15x1x64, .f32⟩
  | 83 => ⟨S16x15x1x64, .f32⟩
  | 84 => ⟨S16x15x1x64, .f32⟩
  | 85 => ⟨S16x15x1x64, .f32⟩
  | 86 => ⟨S16x15x1x64, .f32⟩
  | 87 => ⟨S16x15x1x64, .f32⟩
  | 88 => ⟨S16x15x1x64, .f32⟩
  | 89 => ⟨S16x15x1x64, .f32⟩
  | 90 => ⟨S16x15x1x64, .f32⟩
  | 91 => ⟨S16x15x1x64, .f32⟩
  | 92 => ⟨S16x15x1x64, .f32⟩
  | 93 => ⟨S16x15x1x64, .f32⟩
  | 94 => ⟨S16x15x1x64, .f32⟩
  | 95 => ⟨S16x15x1x64, .f32⟩
  | 96 => ⟨S16x15x1x64, .f32⟩
  | 97 => ⟨S16x15x1x64, .f32⟩
  | 98 => ⟨S16x15x1x64, .f32⟩
  | 99 => ⟨S16x15x1x64, .f32⟩
  | 100 => ⟨S16x15x1x64, .f32⟩
  | 101 => ⟨S16x15x1x64, .f32⟩
  | 102 => ⟨S16x15x1x64, .f32⟩
  | 103 => ⟨S16x15x1x64, .f32⟩
  | 104 => ⟨S16x15x1x64, .f32⟩
  | 105 => ⟨S16x15x1x64, .f32⟩
  | 106 => ⟨S16x15x1x64, .f32⟩
  | 107 => ⟨S16x15x1x64, .f32⟩
  | 108 => ⟨S16x15x1x64, .f32⟩
  | 109 => ⟨S16x15x1x64, .f32⟩
  | 110 => ⟨S16x15x1x64, .f32⟩
  | 111 => ⟨S16x15x1x64, .f32⟩
  | 112 => ⟨S16x15x1x64, .f32⟩
  | 113 => ⟨S16x15x1x64, .f32⟩
  | 114 => ⟨S16x15x1x64, .f32⟩
  | 115 => ⟨S16x15x1x64, .f32⟩
  | 116 => ⟨S16x15x1x64, .f32⟩
  | 117 => ⟨S16x15x1x64, .f32⟩
  | 118 => ⟨S16x15x1x64, .f32⟩
  | 119 => ⟨S16x15x1x64, .f32⟩
  | 120 => ⟨S16x15x1x64, .f32⟩
  | 121 => ⟨S16x15x1x64, .f32⟩
  | 122 => ⟨S16x15x1x64, .f32⟩
  | 123 => ⟨S16x15x1x64, .f32⟩
  | 124 => ⟨S16x15x1x64, .f32⟩
  | 125 => ⟨S16x15x1x64, .f32⟩
  | 126 => ⟨S16x15x1x64, .f32⟩
  | 127 => ⟨S16x15x1x64, .f32⟩
  | _ => ⟨S12x2048x3072, .bf16⟩

abbrev hbmTy0_1 (i : Nat) : BufTy := match i % 128 with
  | 0 => ⟨S16x15x1x64, .f32⟩
  | 1 => ⟨S16x15x1x64, .f32⟩
  | 2 => ⟨S16x15x1x64, .f32⟩
  | 3 => ⟨S16x15x1x64, .f32⟩
  | 4 => ⟨S16x15x1x64, .f32⟩
  | 5 => ⟨S16x15x1x64, .f32⟩
  | 6 => ⟨S16x15x1x64, .f32⟩
  | 7 => ⟨S16x15x16x64, .f32⟩
  | 8 => ⟨S16x15x16x64, .f32⟩
  | 9 => ⟨S16x15x16x64, .f32⟩
  | 10 => ⟨S16x15x16x64, .f32⟩
  | 11 => ⟨S16x15x64x64, .f32⟩
  | 12 => ⟨S_, .f32⟩
  | 13 => ⟨S_, .f32⟩
  | 14 => ⟨S16x15x64x64, .i1⟩
  | 15 => ⟨S16x15x64x64, .f32⟩
  | 16 => ⟨S16x15x64x64, .f32⟩
  | 17 => ⟨S16x8x64x64, .f32⟩
  | 18 => ⟨S16x8x64x64, .f32⟩
  | 19 => ⟨S16x8x64x64, .f32⟩
  | 20 => ⟨S16x8x64x64, .f32⟩
  | 21 => ⟨S16x8x64x64, .f32⟩
  | 22 => ⟨S16x8x64x64, .f32⟩
  | 23 => ⟨S16x8x64x64, .f32⟩
  | 24 => ⟨S16x8x64x64, .f32⟩
  | 25 => ⟨S16x1x8x64x64, .f32⟩
  | 26 => ⟨S16x1x8x64x64, .f32⟩
  | 27 => ⟨S16x1x8x64x64, .f32⟩
  | 28 => ⟨S16x1x8x64x64, .f32⟩
  | 29 => ⟨S16x1x8x64x64, .f32⟩
  | 30 => ⟨S16x1x8x64x64, .f32⟩
  | 31 => ⟨S16x1x8x64x64, .f32⟩
  | 32 => ⟨S16x1x8x64x64, .f32⟩
  | 33 => ⟨S16x8x8x64x64, .f32⟩
  | 34 => ⟨S16x8x64x8x64, .f32⟩
  | 35 => ⟨S16x8x64x512, .f32⟩
  | 36 => ⟨S12x2048x1024, .bf16⟩
  | _ => ⟨S12x2048x3072, .bf16⟩

abbrev hbmTy (i : Nat) : BufTy := match i / 128 with
  | 0 => hbmTy0_0 i
  | 1 => hbmTy0_1 i
  | _ => ⟨S12x2048x3072, .bf16⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x8x64x512, .f32⟩
  | .local _ .vmem, ⟨7, _⟩ => ⟨S2x8x64x512, .f32⟩
  | .local _ .vmem, ⟨8, _⟩ => ⟨S1x2048x128, .bf16⟩
  | .local _ .vmem, ⟨9, _⟩ => ⟨S1x2048x128, .bf16⟩
  | _, _ => ⟨S12x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_cst : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let c0_i32_1 : BitVec 32 := 0#32
  let v5 : BitVec 32 := Scalar.addi v4 c0_i32_1
  let c64_i32_6 : BitVec 32 := 64#32
  let v12 : BitVec 32 := Scalar.muli v5 c64_i32_6
  v12
def k0_off1 (k0_t1 : Fin k0_t1_loop.trips) (c0_i32_1 : BitVec 32) : Fin 3 → Nat :=
  let c0 : Index := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let v5 : BitVec 32 := Scalar.addi v4 c0_i32_1
  let c64_i32_6 : BitVec 32 := 64#32
  let v12 : BitVec 32 := Scalar.muli v5 c64_i32_6
  let v13 : BitVec 32 := v12
  let v14 : Index := Scalar.indexCast v13
  let c0_7 : Index := 0#32
  ![0, v14.toNat, 0]
def k0_mult2 (k0_t1 : Fin k0_t1_loop.trips) : BitVec 32 :=
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let c0_i32_1 : BitVec 32 := 0#32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c24_i32 v7
  let c64_i32_8 : BitVec 32 := 64#32
  let v17 : BitVec 32 := Scalar.muli v8 c64_i32_8
  v17
def k0_off2 (k0_t1 : Fin k0_t1_loop.trips) (c0_i32_1 : BitVec 32) : Fin 3 → Nat :=
  let c0_9 : Index := 0#32
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c24_i32 v7
  let c64_i32_8 : BitVec 32 := 64#32
  let v17 : BitVec 32 := Scalar.muli v8 c64_i32_8
  let v18 : BitVec 32 := v17
  let v19 : Index := Scalar.indexCast v18
  let c0_10 : Index := 0#32
  ![0, v19.toNat, 0]
def k0_mult3 (k0_t1 : Fin k0_t1_loop.trips) : BitVec 32 :=
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let c0_i32_1 : BitVec 32 := 0#32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c24_i32 v7
  let c64_i32_11 : BitVec 32 := 64#32
  let v22 : BitVec 32 := Scalar.muli v8 c64_i32_11
  v22
def k0_off3 (k0_t1 : Fin k0_t1_loop.trips) (c0_i32_1 : BitVec 32) : Fin 4 → Nat :=
  let c0_14 : Index := 0#32
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c24_i32 v7
  let v9 : BitVec 32 := Scalar.subi v8 v5
  let c8_i32_4 : BitVec 32 := 8#32
  let v10 : BitVec 32 := Scalar.addi v9 c8_i32_4
  let c1_i32_5 : BitVec 32 := 1#32
  let v11 : BitVec 32 := Scalar.subi v10 c1_i32_5
  let v29 : Index := Scalar.indexCast v11
  let c0_15 : Index := 0#32
  let c0_16 : Index := 0#32
  ![0, v29.toNat, 0, 0]
def k0_off4 (k0_t1 : Fin k0_t1_loop.trips) (c0_i32_1 : BitVec 32) : Fin 4 → Nat :=
  let c1 : Index := 1#32
  let c24_i32 : BitVec 32 := 24#32
  let c0_i32_3 : BitVec 32 := 0#32
  let c0_i32 : BitVec 32 := 0#32
  let c1_i32 : BitVec 32 := 1#32
  let arg7 : BitVec 32 := Scf.iv c0_i32 c1_i32 k0_t1
  let c8_i32 : BitVec 32 := 8#32
  let v4 : BitVec 32 := Scalar.muli arg7 c8_i32
  let v5 : BitVec 32 := Scalar.addi v4 c0_i32_1
  let c4_i32_2 : BitVec 32 := 4#32
  let v6 : BitVec 32 := Scalar.subi v5 c4_i32_2
  let v7 : BitVec 32 := Scalar.maxsi c0_i32_3 v6
  let v8 : BitVec 32 := Scalar.minsi c24_i32 v7
  let v9 : BitVec 32 := Scalar.subi v8 v5
  let c8_i32_4 : BitVec 32 := 8#32
  let v10 : BitVec 32 := Scalar.addi v9 c8_i32_4
  let c1_i32_5 : BitVec 32 := 1#32
  let v11 : BitVec 32 := Scalar.subi v10 c1_i32_5
  let v35 : Index := Scalar.indexCast v11
  let c0_19 : Index := 0#32
  let c0_20 : Index := 0#32
  ![1, v35.toNat, 0, 0]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_21 : BitVec 32 := 8#32
  let v38 : BitVec 32 := Scalar.muli arg7 c8_i32_21
  let c1_i32_22 : BitVec 32 := 1#32
  let v39 : BitVec 32 := Scalar.addi v38 c1_i32_22
  let c64_i32_28 : BitVec 32 := 64#32
  let v46 : BitVec 32 := Scalar.muli v39 c64_i32_28
  v46
def k0_mult5 (k0_t1 : Fin k0_t1_loop.trips) : BitVec 32 :=
  let c24_i32_25 : BitVec 32 := 24#32
  let c0_i32_24 : BitVec 32 := 0#32
  let c0_i32 : BitVec 32 := 0#32
  let c1_i32 : BitVec 32 := 1#32
  let arg7 : BitVec 32 := Scf.iv c0_i32 c1_i32 k0_t1
  let c8_i32_21 : BitVec 32 := 8#32
  let v38 : BitVec 32 := Scalar.muli arg7 c8_i32_21
  let c1_i32_22 : BitVec 32 := 1#32
  let v39 : BitVec 32 := Scalar.addi v38 c1_i32_22
  let c4_i32_23 : BitVec 32 := 4#32
  let v40 : BitVec 32 := Scalar.subi v39 c4_i32_23
  let v41 : BitVec 32 := Scalar.maxsi c0_i32_24 v40
  let v42 : BitVec 32 := Scalar.minsi c24_i32_25 v41
  let c64_i32_31 : BitVec 32 := 64#32
  let v51 : BitVec 32 := Scalar.muli v42 c64_i32_31
  v51
def k0_mult6 (k0_t1 : Fin k0_t1_loop.trips) : BitVec 32 :=
  let c24_i32_25 : BitVec 32 := 24#32
  let c0_i32_24 : BitVec 32 := 0#32
  let c0_i32 : BitVec 32 := 0#32
  let c1_i32 : BitVec 32 := 1#32
  let arg7 : BitVec 32 := Scf.iv c0_i32 c1_i32 k0_t1
  let c8_i32_21 : BitVec 32 := 8#32
  let v38 : BitVec 32 := Scalar.muli arg7 c8_i32_21
  let c1_i32_22 : BitVec 32 := 1#32
  let v39 : BitVec 32 := Scalar.addi v38 c1_i32_22
  let c4_i32_23 : BitVec 32 := 4#32
  let v40 : BitVec 32 := Scalar.subi v39 c4_i32_23
  let v41 : BitVec 32 := Scalar.maxsi c0_i32_24 v40
  let v42 : BitVec 32 := Scalar.minsi c24_i32_25 v41
  let c64_i32_34 : BitVec 32 := 64#32
  let v56 : BitVec 32 := Scalar.muli v42 c64_i32_34
  v56
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_46 : BitVec 32 := 8#32
  let v72 : BitVec 32 := Scalar.muli arg7 c8_i32_46
  let c2_i32 : BitVec 32 := 2#32
  let v73 : BitVec 32 := Scalar.addi v72 c2_i32
  let c64_i32_52 : BitVec 32 := 64#32
  let v80 : BitVec 32 := Scalar.muli v73 c64_i32_52
  v80
def k0_mult8 (k0_t1 : Fin k0_t1_loop.trips) : BitVec 32 :=
  let c24_i32_49 : BitVec 32 := 24#32
  let c0_i32_48 : BitVec 32 := 0#32
  let c0_i32 : BitVec 32 := 0#32
  let c1_i32 : BitVec 32 := 1#32
  let arg7 : BitVec 32 := Scf.iv c0_i32 c1_i32 k0_t1
  let c8_i32_46 : BitVec 32 := 8#32
  let v72 : BitVec 32 := Scalar.muli arg7 c8_i32_46
  let c2_i32 : BitVec 32 := 2#32
  let v73 : BitVec 32 := Scalar.addi v72 c2_i32
  let c4_i32_47 : BitVec 32 := 4#32
  let v74 : BitVec 32 := Scalar.subi v73 c4_i32_47
  let v75 : BitVec 32 := Scalar.maxsi c0_i32_48 v74
  let v76 : BitVec 32 := Scalar.minsi c24_i32_49 v75
  let c64_i32_55 : BitVec 32 := 64#32
  let v85 : BitVec 32 := Scalar.muli v76 c64_i32_55
  v85
def k0_mult9 (k0_t1 : Fin k0_t1_loop.trips) : BitVec 32 :=
  let c24_i32_49 : BitVec 32 := 24#32
  let c0_i32_48 : BitVec 32 := 0#32
  let c0_i32 : BitVec 32 := 0#32
  let c1_i32 : BitVec 32 := 1#32
  let arg7 : BitVec 32 := Scf.iv c0_i32 c1_i32 k0_t1
  let c8_i32_46 : BitVec 32 := 8#32
  let v72 : BitVec 32 := Scalar.muli arg7 c8_i32_46
  let c2_i32 : BitVec 32 := 2#32
  let v73 : BitVec 32 := Scalar.addi v72 c2_i32
  let c4_i32_47 : BitVec 32 := 4#32
  let v74 : BitVec 32 := Scalar.subi v73 c4_i32_47
  let v75 : BitVec 32 := Scalar.maxsi c0_i32_48 v74
  let v76 : BitVec 32 := Scalar.minsi c24_i32_49 v75
  let c64_i32_58 : BitVec 32 := 64#32
  let v90 : BitVec 32 := Scalar.muli v76 c64_i32_58
  v90
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_70 : BitVec 32 := 8#32
  let v106 : BitVec 32 := Scalar.muli arg7 c8_i32_70
  let c3_i32 : BitVec 32 := 3#32
  let v107 : BitVec 32 := Scalar.addi v106 c3_i32
  let c64_i32_76 : BitVec 32 := 64#32
  let v114 : BitVec 32 := Scalar.muli v107 c64_i32_76
  v114
def k0_mult11 (k0_t1 : Fin k0_t1_loop.trips) : BitVec 32 :=
  let c24_i32_73 : BitVec 32 := 24#32
  let c0_i32_72 : BitVec 32 := 0#32
  let c0_i32 : BitVec 32 := 0#32
  let c1_i32 : BitVec 32 := 1#32
  let arg7 : BitVec 32 := Scf.iv c0_i32 c1_i32 k0_t1
  let c8_i32_70 : BitVec 32 := 8#32
  let v106 : BitVec 32 := Scalar.muli arg7 c8_i32_70
  let c3_i32 : BitVec 32 := 3#32
  let v107 : BitVec 32 := Scalar.addi v106 c3_i32
  let c4_i32_71 : BitVec 32 := 4#32
  let v108 : BitVec 32 := Scalar.subi v107 c4_i32_71
  let v109 : BitVec 32 := Scalar.maxsi c0_i32_72 v108
  let v110 : BitVec 32 := Scalar.minsi c24_i32_73 v109
  let c64_i32_79 : BitVec 32 := 64#32
  let v119 : BitVec 32 := Scalar.muli v110 c64_i32_79
  v119
def k0_mult12 (k0_t1 : Fin k0_t1_loop.trips) : BitVec 32 :=
  let c24_i32_73 : BitVec 32 := 24#32
  let c0_i32_72 : BitVec 32 := 0#32
  let c0_i32 : BitVec 32 := 0#32
  let c1_i32 : BitVec 32 := 1#32
  let arg7 : BitVec 32 := Scf.iv c0_i32 c1_i32 k0_t1
  let c8_i32_70 : BitVec 32 := 8#32
  let v106 : BitVec 32 := Scalar.muli arg7 c8_i32_70
  let c3_i32 : BitVec 32 := 3#32
  let v107 : BitVec 32 := Scalar.addi v106 c3_i32
  let c4_i32_71 : BitVec 32 := 4#32
  let v108 : BitVec 32 := Scalar.subi v107 c4_i32_71
  let v109 : BitVec 32 := Scalar.maxsi c0_i32_72 v108
  let v110 : BitVec 32 := Scalar.minsi c24_i32_73 v109
  let c64_i32_82 : BitVec 32 := 64#32
  let v124 : BitVec 32 := Scalar.muli v110 c64_i32_82
  v124
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_94 : BitVec 32 := 8#32
  let v140 : BitVec 32 := Scalar.muli arg7 c8_i32_94
  let c4_i32_95 : BitVec 32 := 4#32
  let v141 : BitVec 32 := Scalar.addi v140 c4_i32_95
  let c64_i32_101 : BitVec 32 := 64#32
  let v148 : BitVec 32 := Scalar.muli v141 c64_i32_101
  v148
def k0_mult14 (k0_t1 : Fin k0_t1_loop.trips) : BitVec 32 :=
  let c24_i32_98 : BitVec 32 := 24#32
  let c0_i32_97 : BitVec 32 := 0#32
  let c0_i32 : BitVec 32 := 0#32
  let c1_i32 : BitVec 32 := 1#32
  let arg7 : BitVec 32 := Scf.iv c0_i32 c1_i32 k0_t1
  let c8_i32_94 : BitVec 32 := 8#32
  let v140 : BitVec 32 := Scalar.muli arg7 c8_i32_94
  let c4_i32_95 : BitVec 32 := 4#32
  let v141 : BitVec 32 := Scalar.addi v140 c4_i32_95
  let c4_i32_96 : BitVec 32 := 4#32
  let v142 : BitVec 32 := Scalar.subi v141 c4_i32_96
  let v143 : BitVec 32 := Scalar.maxsi c0_i32_97 v142
  let v144 : BitVec 32 := Scalar.minsi c24_i32_98 v143
  let c64_i32_104 : BitVec 32 := 64#32
  let v153 : BitVec 32 := Scalar.muli v144 c64_i32_104
  v153
def k0_mult15 (k0_t1 : Fin k0_t1_loop.trips) : BitVec 32 :=
  let c24_i32_98 : BitVec 32 := 24#32
  let c0_i32_97 : BitVec 32 := 0#32
  let c0_i32 : BitVec 32 := 0#32
  let c1_i32 : BitVec 32 := 1#32
  let arg7 : BitVec 32 := Scf.iv c0_i32 c1_i32 k0_t1
  let c8_i32_94 : BitVec 32 := 8#32
  let v140 : BitVec 32 := Scalar.muli arg7 c8_i32_94
  let c4_i32_95 : BitVec 32 := 4#32
  let v141 : BitVec 32 := Scalar.addi v140 c4_i32_95
  let c4_i32_96 : BitVec 32 := 4#32
  let v142 : BitVec 32 := Scalar.subi v141 c4_i32_96
  let v143 : BitVec 32 := Scalar.maxsi c0_i32_97 v142
  let v144 : BitVec 32 := Scalar.minsi c24_i32_98 v143
  let c64_i32_107 : BitVec 32 := 64#32
  let v158 : BitVec 32 := Scalar.muli v144 c64_i32_107
  v158
def k0_mult16 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_119 : BitVec 32 := 8#32
  let v174 : BitVec 32 := Scalar.muli arg7 c8_i32_119
  let c5_i32 : BitVec 32 := 5#32
  let v175 : BitVec 32 := Scalar.addi v174 c5_i32
  let c64_i32_125 : BitVec 32 := 64#32
  let v182 : BitVec 32 := Scalar.muli v175 c64_i32_125
  v182
def k0_mult17 (k0_t1 : Fin k0_t1_loop.trips) : BitVec 32 :=
  let c24_i32_122 : BitVec 32 := 24#32
  let c0_i32_121 : BitVec 32 := 0#32
  let c0_i32 : BitVec 32 := 0#32
  let c1_i32 : BitVec 32 := 1#32
  let arg7 : BitVec 32 := Scf.iv c0_i32 c1_i32 k0_t1
  let c8_i32_119 : BitVec 32 := 8#32
  let v174 : BitVec 32 := Scalar.muli arg7 c8_i32_119
  let c5_i32 : BitVec 32 := 5#32
  let v175 : BitVec 32 := Scalar.addi v174 c5_i32
  let c4_i32_120 : BitVec 32 := 4#32
  let v176 : BitVec 32 := Scalar.subi v175 c4_i32_120
  let v177 : BitVec 32 := Scalar.maxsi c0_i32_121 v176
  let v178 : BitVec 32 := Scalar.minsi c24_i32_122 v177
  let c64_i32_128 : BitVec 32 := 64#32
  let v187 : BitVec 32 := Scalar.muli v178 c64_i32_128
  v187
def k0_mult18 (k0_t1 : Fin k0_t1_loop.trips) : BitVec 32 :=
  let c24_i32_122 : BitVec 32 := 24#32
  let c0_i32_121 : BitVec 32 := 0#32
  let c0_i32 : BitVec 32 := 0#32
  let c1_i32 : BitVec 32 := 1#32
  let arg7 : BitVec 32 := Scf.iv c0_i32 c1_i32 k0_t1
  let c8_i32_119 : BitVec 32 := 8#32
  let v174 : BitVec 32 := Scalar.muli arg7 c8_i32_119
  let c5_i32 : BitVec 32 := 5#32
  let v175 : BitVec 32 := Scalar.addi v174 c5_i32
  let c4_i32_120 : BitVec 32 := 4#32
  let v176 : BitVec 32 := Scalar.subi v175 c4_i32_120
  let v177 : BitVec 32 := Scalar.maxsi c0_i32_121 v176
  let v178 : BitVec 32 := Scalar.minsi c24_i32_122 v177
  let c64_i32_131 : BitVec 32 := 64#32
  let v192 : BitVec 32 := Scalar.muli v178 c64_i32_131
  v192
def k0_mult19 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_143 : BitVec 32 := 8#32
  let v208 : BitVec 32 := Scalar.muli arg7 c8_i32_143
  let c6_i32 : BitVec 32 := 6#32
  let v209 : BitVec 32 := Scalar.addi v208 c6_i32
  let c64_i32_149 : BitVec 32 := 64#32
  let v216 : BitVec 32 := Scalar.muli v209 c64_i32_149
  v216
def k0_mult20 (k0_t1 : Fin k0_t1_loop.trips) : BitVec 32 :=
  let c24_i32_146 : BitVec 32 := 24#32
  let c0_i32_145 : BitVec 32 := 0#32
  let c0_i32 : BitVec 32 := 0#32
  let c1_i32 : BitVec 32 := 1#32
  let arg7 : BitVec 32 := Scf.iv c0_i32 c1_i32 k0_t1
  let c8_i32_143 : BitVec 32 := 8#32
  let v208 : BitVec 32 := Scalar.muli arg7 c8_i32_143
  let c6_i32 : BitVec 32 := 6#32
  let v209 : BitVec 32 := Scalar.addi v208 c6_i32
  let c4_i32_144 : BitVec 32 := 4#32
  let v210 : BitVec 32 := Scalar.subi v209 c4_i32_144
  let v211 : BitVec 32 := Scalar.maxsi c0_i32_145 v210
  let v212 : BitVec 32 := Scalar.minsi c24_i32_146 v211
  let c64_i32_152 : BitVec 32 := 64#32
  let v221 : BitVec 32 := Scalar.muli v212 c64_i32_152
  v221
def k0_mult21 (k0_t1 : Fin k0_t1_loop.trips) : BitVec 32 :=
  let c24_i32_146 : BitVec 32 := 24#32
  let c0_i32_145 : BitVec 32 := 0#32
  let c0_i32 : BitVec 32 := 0#32
  let c1_i32 : BitVec 32 := 1#32
  let arg7 : BitVec 32 := Scf.iv c0_i32 c1_i32 k0_t1
  let c8_i32_143 : BitVec 32 := 8#32
  let v208 : BitVec 32 := Scalar.muli arg7 c8_i32_143
  let c6_i32 : BitVec 32 := 6#32
  let v209 : BitVec 32 := Scalar.addi v208 c6_i32
  let c4_i32_144 : BitVec 32 := 4#32
  let v210 : BitVec 32 := Scalar.subi v209 c4_i32_144
  let v211 : BitVec 32 := Scalar.maxsi c0_i32_145 v210
  let v212 : BitVec 32 := Scalar.minsi c24_i32_146 v211
  let c64_i32_155 : BitVec 32 := 64#32
  let v226 : BitVec 32 := Scalar.muli v212 c64_i32_155
  v226
def k0_mult22 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_167 : BitVec 32 := 8#32
  let v242 : BitVec 32 := Scalar.muli arg7 c8_i32_167
  let c7_i32 : BitVec 32 := 7#32
  let v243 : BitVec 32 := Scalar.addi v242 c7_i32
  let c64_i32_173 : BitVec 32 := 64#32
  let v250 : BitVec 32 := Scalar.muli v243 c64_i32_173
  v250
def k0_mult23 (k0_t1 : Fin k0_t1_loop.trips) : BitVec 32 :=
  let c24_i32_170 : BitVec 32 := 24#32
  let c0_i32_169 : BitVec 32 := 0#32
  let c0_i32 : BitVec 32 := 0#32
  let c1_i32 : BitVec 32 := 1#32
  let arg7 : BitVec 32 := Scf.iv c0_i32 c1_i32 k0_t1
  let c8_i32_167 : BitVec 32 := 8#32
  let v242 : BitVec 32 := Scalar.muli arg7 c8_i32_167
  let c7_i32 : BitVec 32 := 7#32
  let v243 : BitVec 32 := Scalar.addi v242 c7_i32
  let c4_i32_168 : BitVec 32 := 4#32
  let v244 : BitVec 32 := Scalar.subi v243 c4_i32_168
  let v245 : BitVec 32 := Scalar.maxsi c0_i32_169 v244
  let v246 : BitVec 32 := Scalar.minsi c24_i32_170 v245
  let c64_i32_176 : BitVec 32 := 64#32
  let v255 : BitVec 32 := Scalar.muli v246 c64_i32_176
  v255
def k0_mult24 (k0_t1 : Fin k0_t1_loop.trips) : BitVec 32 :=
  let c24_i32_170 : BitVec 32 := 24#32
  let c0_i32_169 : BitVec 32 := 0#32
  let c0_i32 : BitVec 32 := 0#32
  let c1_i32 : BitVec 32 := 1#32
  let arg7 : BitVec 32 := Scf.iv c0_i32 c1_i32 k0_t1
  let c8_i32_167 : BitVec 32 := 8#32
  let v242 : BitVec 32 := Scalar.muli arg7 c8_i32_167
  let c7_i32 : BitVec 32 := 7#32
  let v243 : BitVec 32 := Scalar.addi v242 c7_i32
  let c4_i32_168 : BitVec 32 := 4#32
  let v244 : BitVec 32 := Scalar.subi v243 c4_i32_168
  let v245 : BitVec 32 := Scalar.maxsi c0_i32_169 v244
  let v246 : BitVec 32 := Scalar.minsi c24_i32_170 v245
  let c64_i32_179 : BitVec 32 := 64#32
  let v260 : BitVec 32 := Scalar.muli v246 c64_i32_179
  v260
def k0_mult25 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_271 : BitVec 32 := 8#32
  let v516 : BitVec 32 := Scalar.muli arg7 c8_i32_271
  let c0_i32_272 : BitVec 32 := 0#32
  let v517 : BitVec 32 := Scalar.addi v516 c0_i32_272
  let c64_i32_273 : BitVec 32 := 64#32
  let v520 : BitVec 32 := Scalar.muli v517 c64_i32_273
  v520
def k0_mult26 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_276 : BitVec 32 := 8#32
  let v526 : BitVec 32 := Scalar.muli arg7 c8_i32_276
  let c1_i32_277 : BitVec 32 := 1#32
  let v527 : BitVec 32 := Scalar.addi v526 c1_i32_277
  let c64_i32_278 : BitVec 32 := 64#32
  let v530 : BitVec 32 := Scalar.muli v527 c64_i32_278
  v530
def k0_mult27 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_281 : BitVec 32 := 8#32
  let v536 : BitVec 32 := Scalar.muli arg7 c8_i32_281
  let c2_i32_282 : BitVec 32 := 2#32
  let v537 : BitVec 32 := Scalar.addi v536 c2_i32_282
  let c64_i32_283 : BitVec 32 := 64#32
  let v540 : BitVec 32 := Scalar.muli v537 c64_i32_283
  v540
def k0_mult28 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_286 : BitVec 32 := 8#32
  let v546 : BitVec 32 := Scalar.muli arg7 c8_i32_286
  let c3_i32_287 : BitVec 32 := 3#32
  let v547 : BitVec 32 := Scalar.addi v546 c3_i32_287
  let c64_i32_288 : BitVec 32 := 64#32
  let v550 : BitVec 32 := Scalar.muli v547 c64_i32_288
  v550
def k0_mult29 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_291 : BitVec 32 := 8#32
  let v556 : BitVec 32 := Scalar.muli arg7 c8_i32_291
  let c4_i32_292 : BitVec 32 := 4#32
  let v557 : BitVec 32 := Scalar.addi v556 c4_i32_292
  let c64_i32_293 : BitVec 32 := 64#32
  let v560 : BitVec 32 := Scalar.muli v557 c64_i32_293
  v560
def k0_mult30 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_296 : BitVec 32 := 8#32
  let v566 : BitVec 32 := Scalar.muli arg7 c8_i32_296
  let c5_i32_297 : BitVec 32 := 5#32
  let v567 : BitVec 32 := Scalar.addi v566 c5_i32_297
  let c64_i32_298 : BitVec 32 := 64#32
  let v570 : BitVec 32 := Scalar.muli v567 c64_i32_298
  v570
def k0_mult31 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_301 : BitVec 32 := 8#32
  let v576 : BitVec 32 := Scalar.muli arg7 c8_i32_301
  let c6_i32_302 : BitVec 32 := 6#32
  let v577 : BitVec 32 := Scalar.addi v576 c6_i32_302
  let c64_i32_303 : BitVec 32 := 64#32
  let v580 : BitVec 32 := Scalar.muli v577 c64_i32_303
  v580
def k0_mult32 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_306 : BitVec 32 := 8#32
  let v586 : BitVec 32 := Scalar.muli arg7 c8_i32_306
  let c7_i32_307 : BitVec 32 := 7#32
  let v587 : BitVec 32 := Scalar.addi v586 c7_i32_307
  let c64_i32_308 : BitVec 32 := 64#32
  let v590 : BitVec 32 := Scalar.muli v587 c64_i32_308
  v590
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S12x2048x3072 : Shape := ⟨3, ![12, 2048, 3072]⟩
abbrev S16x15x31 : Shape := ⟨3, ![16, 15, 31]⟩
abbrev S12x2048x1024 : Shape := ⟨3, ![12, 2048, 1024]⟩
abbrev S12x32x64x16x64 : Shape := ⟨5, ![12, 32, 64, 16, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S12x32x8x64x16x64 : Shape := ⟨6, ![12, 32, 8, 64, 16, 64]⟩
abbrev S64x16x1 : Shape := ⟨3, ![64, 16, 1]⟩
abbrev S12x32x8x64x16x16x64 : Shape := ⟨7, ![12, 32, 8, 64, 16, 16, 64]⟩
abbrev S12x32x64x8x16x16x64 : Shape := ⟨7, ![12, 32, 64, 8, 16, 16, 64]⟩
abbrev S12x32x64x128x16x64 : Shape := ⟨6, ![12, 32, 64, 128, 16, 64]⟩
abbrev S16x32x8x31 : Shape := ⟨4, ![16, 32, 8, 31]⟩
abbrev S16x32x8x64x16 : Shape := ⟨5, ![16, 32, 8, 64, 16]⟩
abbrev S32x16x64x8x16 : Shape := ⟨5, ![32, 16, 64, 8, 16]⟩
abbrev S32x16x64x128 : Shape := ⟨4, ![32, 16, 64, 128]⟩
abbrev S12x32x16x64x128 : Shape := ⟨5, ![12, 32, 16, 64, 128]⟩
abbrev S1x32x16x64x128 : Shape := ⟨5, ![1, 32, 16, 64, 128]⟩
abbrev S12x32x16x64 : Shape := ⟨4, ![12, 32, 16, 64]⟩
abbrev S12x32x16x64x1 : Shape := ⟨5, ![12, 32, 16, 64, 1]⟩

abbrev nBuf : Space → Nat
  | .hbm => 101
  | .vmem => 0
  | .smem => 0
  | _ => 0

abbrev bufTy : (tb : Table) → Fin (tcTables nBuf tb) → BufTy
  | .hbm, ⟨0, _⟩ => ⟨S12x2048x3072, .bf16⟩
  | .hbm, ⟨1, _⟩ => ⟨S16x15x31, .f32⟩
  | .hbm, ⟨2, _⟩ => ⟨S12x2048x3072, .f32⟩
  | .hbm, ⟨3, _⟩ => ⟨S12x2048x1024, .f32⟩
  | .hbm, ⟨4, _⟩ => ⟨S12x2048x1024, .f32⟩
  | .hbm, ⟨5, _⟩ => ⟨S12x2048x1024, .f32⟩
  | .hbm, ⟨6, _⟩ => ⟨S12x32x64x16x64, .f32⟩
  | .hbm, ⟨7, _⟩ => ⟨S12x32x64x16x64, .f32⟩
  | .hbm, ⟨8, _⟩ => ⟨S12x32x64x16x64, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S16, .i32⟩
  | .hbm, ⟨21, _⟩ => ⟨S1x16, .i32⟩
  | .hbm, ⟨22, _⟩ => ⟨S64x16, .i32⟩
  | .hbm, ⟨23, _⟩ => ⟨S64x16, .i32⟩
  | .hbm, ⟨24, _⟩ => ⟨S64x16, .i32⟩
  | .hbm, ⟨25, _⟩ => ⟨S64x1, .i32⟩
  | .hbm, ⟨26, _⟩ => ⟨S64x16, .i32⟩
  | .hbm, ⟨27, _⟩ => ⟨S64x16, .i32⟩
  | .hbm, ⟨28, _⟩ => ⟨S_, .i32⟩
  | .hbm, ⟨29, _⟩ => ⟨S64x16, .i32⟩
  | .hbm, ⟨30, _⟩ => ⟨S64x16, .i32⟩
  | .hbm, ⟨31, _⟩ => ⟨S_, .i32⟩
  | .hbm, ⟨32, _⟩ => ⟨S64x16, .i32⟩
  | .hbm, ⟨33, _⟩ => ⟨S64x16, .i32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32x1, .i32⟩
  | .hbm, ⟨45, _⟩ => ⟨S8, .i32⟩
  | .hbm, ⟨46, _⟩ => ⟨S1x8, .i32⟩
  | .hbm, ⟨47, _⟩ => ⟨S32x8, .i32⟩
  | .hbm, ⟨48, _⟩ => ⟨S32x8, .i32⟩
  | .hbm, ⟨49, _⟩ => ⟨S32x8, .i32⟩
  | .hbm, ⟨50, _⟩ => ⟨S32x1, .i32⟩
  | .hbm, ⟨51, _⟩ => ⟨S32x8, .i32⟩
  | .hbm, ⟨52, _⟩ => ⟨S32x8, .i32⟩
  | .hbm, ⟨53, _⟩ => ⟨S_, .i32⟩
  | .hbm, ⟨54, _⟩ => ⟨S32x8, .i32⟩
  | .hbm, ⟨55, _⟩ => ⟨S32x8, .i32⟩
  | .hbm, ⟨56, _⟩ => ⟨S_, .i32⟩
  | .hbm, ⟨57, _⟩ => ⟨S32x8, .i32⟩
  | .hbm, ⟨58, _⟩ => ⟨S32x8, .i32⟩
  | .hbm, ⟨59, _⟩ => ⟨S32x8x1, .i32⟩
  | .hbm, ⟨60, _⟩ => ⟨S12x32x8x64x16x64, .f32⟩
  | .hbm, ⟨61, _⟩ => ⟨S64x16x1, .i32⟩
  | .hbm, ⟨62, _⟩ => ⟨S12x32x8x64x16x16x64, .f32⟩
  | .hbm, ⟨63, _⟩ => ⟨S12x32x64x8x16x16x64, .f32⟩
  | .hbm, ⟨64, _⟩ => ⟨S12x32x64x128x16x64, .f32⟩
  | .hbm, ⟨65, _⟩ => ⟨S32x8x1, .i32⟩
  | .hbm, ⟨66, _⟩ => ⟨S12x32x8x64x16x64, .f32⟩
  | .hbm, ⟨67, _⟩ => ⟨S64x16x1, .i32⟩
  | .hbm, ⟨68, _⟩ => ⟨S12x32x8x64x16x16x64, .f32⟩
  | .hbm, ⟨69, _⟩ => ⟨S12x32x64x8x16x16x64, .f32⟩
  | .hbm, ⟨70, _⟩ => ⟨S12x32x64x128x16x64, .f32⟩
  | .hbm, ⟨71, _⟩ => ⟨S32x8x1, .i32⟩
  | .hbm, ⟨72, _⟩ => ⟨S16x32x8x31, .f32⟩
  | .hbm, ⟨73, _⟩ => ⟨S64x16x1, .i32⟩
  | .hbm, ⟨74, _⟩ => ⟨S16x32x8x64x16, .f32⟩
  | .hbm, ⟨75, _⟩ => ⟨S32x16x64x8x16, .f32⟩
  | .hbm, ⟨76, _⟩ => ⟨S32x16x64x128, .f32⟩
  | .hbm, ⟨77, _⟩ => ⟨S_, .f32⟩
  | .hbm, ⟨78, _⟩ => ⟨S12x32x64x16x64, .f32⟩
  | .hbm, ⟨79, _⟩ => ⟨S12x32x64x16x64, .f32⟩
  | .hbm, ⟨80, _⟩ => ⟨S12x32x16x64x128, .f32⟩
  | .hbm, ⟨81, _⟩ => ⟨S1x32x16x64x128, .f32⟩
  | .hbm, ⟨82, _⟩ => ⟨S12x32x16x64x128, .f32⟩
  | .hbm, ⟨83, _⟩ => ⟨S12x32x16x64x128, .f32⟩
  | .hbm, ⟨84, _⟩ => ⟨S_, .f32⟩
  | .hbm, ⟨85, _⟩ => ⟨S12x32x16x64, .f32⟩
  | .hbm, ⟨86, _⟩ => ⟨S_, .f32⟩
  | .hbm, ⟨87, _⟩ => ⟨S12x32x16x64, .f32⟩
  | .hbm, ⟨88, _⟩ => ⟨S12x32x16x64, .f32⟩
  | .hbm, ⟨89, _⟩ => ⟨S12x32x16x64x1, .f32⟩
  | .hbm, ⟨90, _⟩ => ⟨S12x32x16x64x128, .f32⟩
  | .hbm, ⟨91, _⟩ => ⟨S12x32x16x64x128, .f32⟩
  | .hbm, ⟨92, _⟩ => ⟨S12x32x16x64x128, .f32⟩
  | .hbm, ⟨93, _⟩ => ⟨S_, .f32⟩
  | .hbm, ⟨94, _⟩ => ⟨S12x32x16x64, .f32⟩
  | .hbm, ⟨95, _⟩ => ⟨S12x32x16x64x1, .f32⟩
  | .hbm, ⟨96, _⟩ => ⟨S12x32x16x64x128, .f32⟩
  | .hbm, ⟨97, _⟩ => ⟨S12x32x16x64x128, .f32⟩
  | .hbm, ⟨98, _⟩ => ⟨S12x32x64x16x64, .f32⟩
  | .hbm, ⟨99, _⟩ => ⟨S12x2048x1024, .f32⟩
  | .hbm, ⟨100, _⟩ => ⟨S12x2048x1024, .bf16⟩
  | _, _ => ⟨S12x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_c_8 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_v47 : Ref sig .tc := ⟨.hbm, 60, rfl⟩
abbrev main_call1_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call2_v0 : Ref sig .tc := ⟨.hbm, 65, rfl⟩
abbrev main_v51 : Ref sig .tc := ⟨.hbm, 66, rfl⟩
abbrev main_call3_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call4_v0 : Ref sig .tc := ⟨.hbm, 71, rfl⟩
abbrev main_v55 : Ref sig .tc := ⟨.hbm, 72, rfl⟩
abbrev main_call5_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Project.lean ====
abbrev S24576x4096 : Shape := ⟨2, ![24576, 4096]⟩
abbrev S4096 : Shape := ⟨1, ![4096]⟩
abbrev S4096x22912 : Shape := ⟨2, ![4096, 22912]⟩
abbrev S1x4096 : Shape := ⟨2, ![1, 4096]⟩
abbrev S24576x1 : Shape := ⟨2, ![24576, 1]⟩
abbrev S512x4096 : Shape := ⟨2, ![512, 4096]⟩
abbrev S512x1 : Shape := ⟨2, ![512, 1]⟩
abbrev S512 : Shape := ⟨1, ![512]⟩
abbrev S4096x10624 : Shape := ⟨2, ![4096, 10624]⟩
abbrev S4096x12288 : Shape := ⟨2, ![4096, 12288]⟩
abbrev S_ : Shape := ⟨0, ![]⟩
abbrev S12288 : Shape := ⟨1, ![12288]⟩
abbrev S1x12288 : Shape := ⟨2, ![1, 12288]⟩
abbrev S4096x1024 : Shape := ⟨2, ![4096, 1024]⟩
abbrev S24576x1024 : Shape := ⟨2, ![24576, 1024]⟩
abbrev S1024x4096 : Shape := ⟨2, ![1024, 4096]⟩
abbrev S1024x1024 : Shape := ⟨2, ![1024, 1024]⟩
abbrev S4096x6144 : Shape := ⟨2, ![4096, 6144]⟩
abbrev S24576x6144 : Shape := ⟨2, ![24576, 6144]⟩
abbrev S4096x384 : Shape := ⟨2, ![4096, 384]⟩
abbrev S24576x384 : Shape := ⟨2, ![24576, 384]⟩
abbrev S1024x384 : Shape := ⟨2, ![1024, 384]⟩
abbrev S4096x3072 : Shape := ⟨2, ![4096, 3072]⟩
abbrev S24576x3072 : Shape := ⟨2, ![24576, 3072]⟩
abbrev S24576x12288 : Shape := ⟨2, ![24576, 12288]⟩
abbrev S1x1024 : Shape := ⟨2, ![1, 1024]⟩
abbrev S1024x1 : Shape := ⟨2, ![1024, 1]⟩

abbrev nBuf : Space → Nat
  | .hbm => 33
  | .vmem => 41
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x22912, .f32⟩
  | .hbm, ⟨3, _⟩ => ⟨S1x4096, .f32⟩
  | .hbm, ⟨4, _⟩ => ⟨S24576x4096, .bf16⟩
  | .hbm, ⟨5, _⟩ => ⟨S24576x4096, .fp8e4m3⟩
  | .hbm, ⟨6, _⟩ => ⟨S24576x1, .f32⟩
  | .hbm, ⟨7, _⟩ => ⟨S4096x10624, .f32⟩
  | .hbm, ⟨8, _⟩ => ⟨S4096x10624, .bf16⟩
  | .hbm, ⟨9, _⟩ => ⟨S4096x12288, .f32⟩
  | .hbm, ⟨10, _⟩ => ⟨S4096x12288, .f32⟩
  | .hbm, ⟨11, _⟩ => ⟨S_, .f32⟩
  | .hbm, ⟨12, _⟩ => ⟨S12288, .f32⟩
  | .hbm, ⟨13, _⟩ => ⟨S_, .f32⟩
  | .hbm, ⟨14, _⟩ => ⟨S12288, .f32⟩
  | .hbm, ⟨15, _⟩ => ⟨S12288, .f32⟩
  | .hbm, ⟨16, _⟩ => ⟨S_, .f32⟩
  | .hbm, ⟨17, _⟩ => ⟨S12288, .f32⟩
  | .hbm, ⟨18, _⟩ => ⟨S12288, .f32⟩
  | .hbm, ⟨19, _⟩ => ⟨S1x12288, .f32⟩
  | .hbm, ⟨20, _⟩ => ⟨S4096x12288, .f32⟩
  | .hbm, ⟨21, _⟩ => ⟨S4096x12288, .f32⟩
  | .hbm, ⟨22, _⟩ => ⟨S4096x12288, .fp8e4m3⟩
  | .hbm, ⟨23, _⟩ => ⟨S4096x1024, .bf16⟩
  | .hbm, ⟨24, _⟩ => ⟨S24576x1024, .bf16⟩
  | .hbm, ⟨25, _⟩ => ⟨S4096x6144, .bf16⟩
  | .hbm, ⟨26, _⟩ => ⟨S24576x6144, .f32⟩
  | .hbm, ⟨27, _⟩ => ⟨S4096x384, .bf16⟩
  | .hbm, ⟨28, _⟩ => ⟨S24576x384, .f32⟩
  | .hbm, ⟨29, _⟩ => ⟨S4096x3072, .bf16⟩
  | .hbm, ⟨30, _⟩ => ⟨S24576x3072, .bf16⟩
  | .hbm, ⟨31, _⟩ => ⟨S1x12288, .f32⟩
  | .hbm, ⟨32, _⟩ => ⟨S24576x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .fp8e4m3⟩
  | .local _ .vmem, ⟨6, _⟩ => ⟨S512x4096, .fp8e4m3⟩
  | .local _ .vmem, ⟨7, _⟩ => ⟨S512x1, .f32⟩
  | .local _ .vmem, ⟨8, _⟩ => ⟨S512x1, .f32⟩
  | .local _ .vmem, ⟨9, _⟩ => ⟨S1024x4096, .bf16⟩
  | .local _ .vmem, ⟨10, _⟩ => ⟨S1024x4096, .bf16⟩
  | .local _ .vmem, ⟨11, _⟩ => ⟨S4096x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x4096, .bf16⟩
  | .local _ .vmem, ⟨21, _⟩ => ⟨S1024x4096, .bf16⟩
  | .local _ .vmem, ⟨22, _⟩ => ⟨S4096x384, .bf16⟩
  | .local _ .vmem, ⟨23, _⟩ => ⟨S1024x384, .f32⟩
  | .local _ .vmem, ⟨24, _⟩ => ⟨S1024x384, .f32⟩
  | .local _ .vmem, ⟨25, _⟩ => ⟨S1024x4096, .bf16⟩
  | .local _ .vmem, ⟨26, _⟩ => ⟨S1024x4096, .bf16⟩
  | .local _ .vmem, ⟨27, _⟩ => ⟨S4096x1024, .bf16⟩
  | .local _ .vmem, ⟨28, _⟩ => ⟨S4096x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x4096, .fp8e4m3⟩
  | .local _ .vmem, ⟨32, _⟩ => ⟨S1024x4096, .fp8e4m3⟩
  | .local _ .vmem, ⟨33, _⟩ => ⟨S4096x1024, .fp8e4m3⟩
  | .local _ .vmem, ⟨34, _⟩ => ⟨S4096x1024, .fp8e4m3⟩
  | .local _ .vmem, ⟨35, _⟩ => ⟨S1x1024, .f32⟩
  | .local _ .vmem, ⟨36, _⟩ => ⟨S1x1024, .f32⟩
  | .local _ .vmem, ⟨37, _⟩ => ⟨S1024x1, .f32⟩
  | .local _ .vmem, ⟨38, _⟩ => ⟨S1024x1, .f32⟩
  | .local _ .vmem, ⟨39, _⟩ => ⟨S1024x1024, .bf16⟩
  | .local _ .vmem, ⟨40, _⟩ => ⟨S1024x1024, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![24, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![24, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![24, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x384 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![24, 3], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![24, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .fp8e4m3 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .fp8e4m3 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1024x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== ProjectIdeal.lean ====
variable {F : FTy → Type} [FloatOps F] [Named F]
def κ : String → Option EReal := fun
  | "inv_f8_max" => some ((1 / 448 : ℝ) : EReal)
  | _ => none
-- ==== ProjectReferenceIdeal.lean ====
abbrev S24576x4096 : Shape := ⟨2, ![24576, 4096]⟩
abbrev S4096 : Shape := ⟨1, ![4096]⟩
abbrev S4096x22912 : Shape := ⟨2, ![4096, 22912]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S24576x22912 : Shape := ⟨2, ![24576, 22912]⟩
abbrev S24576x1024 : Shape := ⟨2, ![24576, 1024]⟩
abbrev S24576x6144 : Shape := ⟨2, ![24576, 6144]⟩
abbrev S24576x384 : Shape := ⟨2, ![24576, 384]⟩
abbrev S24576x3072 : Shape := ⟨2, ![24576, 3072]⟩
abbrev S24576x12288 : Shape := ⟨2, ![24576, 12288]⟩

abbrev nBuf : Space → Nat
  | .hbm => 36
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096x22912, .f32⟩
  | .hbm, ⟨3, _⟩ => ⟨S24576x4096, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x4096, .f32⟩
  | .hbm, ⟨15, _⟩ => ⟨S24576x4096, .f32⟩
  | .hbm, ⟨16, _⟩ => ⟨S1x4096, .f32⟩
  | .hbm, ⟨17, _⟩ => ⟨S24576x4096, .f32⟩
  | .hbm, ⟨18, _⟩ => ⟨S24576x4096, .f32⟩
  | .hbm, ⟨19, _⟩ => ⟨S24576x22912, .f32⟩
  | .hbm, ⟨20, _⟩ => ⟨S24576x1024, .f32⟩
  | .hbm, ⟨21, _⟩ => ⟨S24576x6144, .f32⟩
  | .hbm, ⟨22, _⟩ => ⟨S24576x384, .f32⟩
  | .hbm, ⟨23, _⟩ => ⟨S24576x3072, .f32⟩
  | .hbm, ⟨24, _⟩ => ⟨S24576x12288, .f32⟩
  | .hbm, ⟨25, _⟩ => ⟨S24576x1024, .bf16⟩
  | .hbm, ⟨26, _⟩ => ⟨S24576x3072, .bf16⟩
  | .hbm, ⟨27, _⟩ => ⟨S24576x12288, .f32⟩
  | .hbm, ⟨28, _⟩ => ⟨S24576x12288, .f32⟩
  | .hbm, ⟨29, _⟩ => ⟨S_, .f32⟩
  | .hbm, ⟨30, _⟩ => ⟨S24576x12288, .f32⟩
  | .hbm, ⟨31, _⟩ => ⟨S24576x12288, .f32⟩
  | .hbm, ⟨32, _⟩ => ⟨S_, .f32⟩
  | .hbm, ⟨33, _⟩ => ⟨S24576x12288, .f32⟩
  | .hbm, ⟨34, _⟩ => ⟨S24576x12288, .f32⟩
  | .hbm, ⟨35, _⟩ => ⟨S24576x12288, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Merge.lean ====
abbrev S24576x4096 : Shape := ⟨2, ![24576, 4096]⟩
abbrev S24576x1024 : Shape := ⟨2, ![24576, 1024]⟩
abbrev S24576x2048 : Shape := ⟨2, ![24576, 2048]⟩
abbrev S24576x12288 : Shape := ⟨2, ![24576, 12288]⟩
abbrev S1024x4096 : Shape := ⟨2, ![1024, 4096]⟩
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S512x4096 : Shape := ⟨2, ![512, 4096]⟩
abbrev S4096x1024 : Shape := ⟨2, ![4096, 1024]⟩
abbrev S1x4096 : Shape := ⟨2, ![1, 4096]⟩
abbrev S4096x24576 : Shape := ⟨2, ![4096, 24576]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 22
  | .vmem => 41
  | .smem => 0
  | _ => 0

abbrev bufTy : (tb : Table) → Fin (tcTables nBuf tb) → BufTy
  | .hbm, ⟨0, _⟩ => ⟨S24576x4096, .f32⟩
  | .hbm, ⟨1, _⟩ => ⟨S24576x1024, .bf16⟩
  | .hbm, ⟨2, _⟩ => ⟨S24576x2048, .bf16⟩
  | .hbm, ⟨3, _⟩ => ⟨S24576x1024, .bf16⟩
  | .hbm, ⟨4, _⟩ => ⟨S24576x12288, .bf16⟩
  | .hbm, ⟨5, _⟩ => ⟨S1024x4096, .f32⟩
  | .hbm, ⟨6, _⟩ => ⟨S2048x4096, .f32⟩
  | .hbm, ⟨7, _⟩ => ⟨S1024x4096, .f32⟩
  | .hbm, ⟨8, _⟩ => ⟨S4096x4096, .f32⟩
  | .hbm, ⟨9, _⟩ => ⟨S4096, .f32⟩
  | .hbm, ⟨10, _⟩ => ⟨S4096x2048, .f32⟩
  | .hbm, ⟨11, _⟩ => ⟨S1024x4096, .bf16⟩
  | .hbm, ⟨12, _⟩ => ⟨S2048x4096, .bf16⟩
  | .hbm, ⟨13, _⟩ => ⟨S1024x4096, .bf16⟩
  | .hbm, ⟨14, _⟩ => ⟨S24576x4096, .bf16⟩
  | .hbm, ⟨15, _⟩ => ⟨S4096x4096, .bf16⟩
  | .hbm, ⟨16, _⟩ => ⟨S24576x4096, .f32⟩
  | .hbm, ⟨17, _⟩ => ⟨S1x4096, .f32⟩
  | .hbm, ⟨18, _⟩ => ⟨S24576x4096, .bf16⟩
  | .hbm, ⟨19, _⟩ => ⟨S4096x24576, .bf16⟩
  | .hbm, ⟨20, _⟩ => ⟨S4096x2048, .bf16⟩
  | .hbm, ⟨21, _⟩ => ⟨S24576x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x4096, .bf16⟩
  | .local _ .vmem, ⟨21, _⟩ => ⟨S512x4096, .bf16⟩
  | .local _ .vmem, ⟨22, _⟩ => ⟨S4096x1024, .bf16⟩
  | .local _ .vmem, ⟨23, _⟩ => ⟨S4096x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S256x4096, .f32⟩
  | .local _ .vmem, ⟨29, _⟩ => ⟨S256x4096, .f32⟩
  | .local _ .vmem, ⟨30, _⟩ => ⟨S1x4096, .f32⟩
  | .local _ .vmem, ⟨31, _⟩ => ⟨S256x4096, .bf16⟩
  | .local _ .vmem, ⟨32, _⟩ => ⟨S256x4096, .bf16⟩
  | .local _ .vmem, ⟨33, _⟩ => ⟨S4096x256, .bf16⟩
  | .local _ .vmem, ⟨34, _⟩ => ⟨S4096x256, .bf16⟩
  | .local _ .vmem, ⟨35, _⟩ => ⟨S1024x4096, .bf16⟩
  | .local _ .vmem, ⟨36, _⟩ => ⟨S1024x4096, .bf16⟩
  | .local _ .vmem, ⟨37, _⟩ => ⟨S4096x1024, .bf16⟩
  | .local _ .vmem, ⟨38, _⟩ => ⟨S4096x1024, .bf16⟩
  | .local _ .vmem, ⟨39, _⟩ => ⟨S1024x1024, .bf16⟩
  | .local _ .vmem, ⟨40, _⟩ => ⟨S1024x1024, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32
abbrev cc2_sem3_0 : DmaSem sig := 33
abbrev cc2_sem3_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![48, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![96], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![24, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MergeReferenceIdeal.lean ====
abbrev S24576x4096 : Shape := ⟨2, ![24576, 4096]⟩
abbrev S24576x1024 : Shape := ⟨2, ![24576, 1024]⟩
abbrev S24576x2048 : Shape := ⟨2, ![24576, 2048]⟩
abbrev S24576x12288 : Shape := ⟨2, ![24576, 12288]⟩
abbrev S1024x4096 : Shape := ⟨2, ![1024, 4096]⟩
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S4096x24576 : Shape := ⟨2, ![4096, 24576]⟩

abbrev nBuf : Space → Nat
  | .hbm => 49
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x1024, .bf16⟩
  | .hbm, ⟨2, _⟩ => ⟨S24576x2048, .bf16⟩
  | .hbm, ⟨3, _⟩ => ⟨S24576x1024, .bf16⟩
  | .hbm, ⟨4, _⟩ => ⟨S24576x12288, .bf16⟩
  | .hbm, ⟨5, _⟩ => ⟨S1024x4096, .f32⟩
  | .hbm, ⟨6, _⟩ => ⟨S2048x4096, .f32⟩
  | .hbm, ⟨7, _⟩ => ⟨S1024x4096, .f32⟩
  | .hbm, ⟨8, _⟩ => ⟨S4096x4096, .f32⟩
  | .hbm, ⟨9, _⟩ => ⟨S4096, .f32⟩
  | .hbm, ⟨10, _⟩ => ⟨S4096x2048, .f32⟩
  | .hbm, ⟨11, _⟩ => ⟨S24576x12288, .f32⟩
  | .hbm, ⟨12, _⟩ => ⟨S24576x4096, .f32⟩
  | .hbm, ⟨13, _⟩ => ⟨S24576x4096, .f32⟩
  | .hbm, ⟨14, _⟩ => ⟨S24576x4096, .f32⟩
  | .hbm, ⟨15, _⟩ => ⟨S24576x1024, .f32⟩
  | .hbm, ⟨16, _⟩ => ⟨S24576x4096, .f32⟩
  | .hbm, ⟨17, _⟩ => ⟨S24576x4096, .f32⟩
  | .hbm, ⟨18, _⟩ => ⟨S24576x2048, .f32⟩
  | .hbm, ⟨19, _⟩ => ⟨S24576x4096, .f32⟩
  | .hbm, ⟨20, _⟩ => ⟨S24576x4096, .f32⟩
  | .hbm, ⟨21, _⟩ => ⟨S24576x4096, .f32⟩
  | .hbm, ⟨22, _⟩ => ⟨S24576x1024, .f32⟩
  | .hbm, ⟨23, _⟩ => ⟨S24576x4096, .f32⟩
  | .hbm, ⟨24, _⟩ => ⟨S24576x4096, .f32⟩
  | .hbm, ⟨25, _⟩ => ⟨S24576x4096, .f32⟩
  | .hbm, ⟨26, _⟩ => ⟨S24576x4096, .f32⟩
  | .hbm, ⟨27, _⟩ => ⟨S24576x4096, .f32⟩
  | .hbm, ⟨28, _⟩ => ⟨S24576x4096, .f32⟩
  | .hbm, ⟨29, _⟩ => ⟨S_, .f32⟩
  | .hbm, ⟨30, _⟩ => ⟨S24576, .f32⟩
  | .hbm, ⟨31, _⟩ => ⟨S24576x1, .f32⟩
  | .hbm, ⟨32, _⟩ => ⟨S_, .f32⟩
  | .hbm, ⟨33, _⟩ => ⟨S24576x1, .f32⟩
  | .hbm, ⟨34, _⟩ => ⟨S24576x1, .f32⟩
  | .hbm, ⟨35, _⟩ => ⟨S_, .f32⟩
  | .hbm, ⟨36, _⟩ => ⟨S24576x1, .f32⟩
  | .hbm, ⟨37, _⟩ => ⟨S24576x1, .f32⟩
  | .hbm, ⟨38, _⟩ => ⟨S24576x1, .f32⟩
  | .hbm, ⟨39, _⟩ => ⟨S24576x4096, .f32⟩
  | .hbm, ⟨40, _⟩ => ⟨S24576x4096, .f32⟩
  | .hbm, ⟨41, _⟩ => ⟨S1x4096, .f32⟩
  | .hbm, ⟨42, _⟩ => ⟨S24576x4096, .f32⟩
  | .hbm, ⟨43, _⟩ => ⟨S24576x4096, .f32⟩
  | .hbm, ⟨44, _⟩ => ⟨S24576x2048, .f32⟩
  | .hbm, ⟨45, _⟩ => ⟨S24576x4096, .bf16⟩
  | .hbm, ⟨46, _⟩ => ⟨S4096x24576, .f32⟩
  | .hbm, ⟨47, _⟩ => ⟨S4096x24576, .bf16⟩
  | .hbm, ⟨48, _⟩ => ⟨S24576x2048, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Last.lean ====
abbrev S24576x4096 : Shape := ⟨2, ![24576, 4096]⟩
abbrev S4096x24576 : Shape := ⟨2, ![4096, 24576]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .f32⟩
  | .hbm, ⟨1, _⟩ => ⟨S4096x24576, .f32⟩
  | .hbm, ⟨2, _⟩ => ⟨S4096, .f32⟩
  | .hbm, ⟨3, _⟩ => ⟨S1x4096, .f32⟩
  | .hbm, ⟨4, _⟩ => ⟨S24576x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastReferenceIdeal.lean ====
abbrev S24576x4096 : Shape := ⟨2, ![24576, 4096]⟩
abbrev S4096x24576 : Shape := ⟨2, ![4096, 24576]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096x24576, .f32⟩
  | .hbm, ⟨2, _⟩ => ⟨S4096, .f32⟩
  | .hbm, ⟨3, _⟩ => ⟨S24576x4096, .f32⟩
  | .hbm, ⟨4, _⟩ => ⟨S24576x4096, .f32⟩
  | .hbm, ⟨5, _⟩ => ⟨S24576x4096, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x4096, .f32⟩
  | .hbm, ⟨17, _⟩ => ⟨S24576x4096, .f32⟩
  | .hbm, ⟨18, _⟩ => ⟨S1x4096, .f32⟩
  | .hbm, ⟨19, _⟩ => ⟨S24576x4096, .f32⟩
  | .hbm, ⟨20, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Fourier.lean ====
abbrev S12x2048x1024 : Shape := ⟨3, ![12, 2048, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x2048x1024 : Shape := ⟨3, ![1, 2048, 1024]⟩
abbrev S512x2048 : Shape := ⟨2, ![512, 2048]⟩
abbrev S1x512x1024 : Shape := ⟨3, ![1, 512, 1024]⟩
abbrev S2048x1024 : Shape := ⟨2, ![2048, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 86
  | .vmem => 10
  | .smem => 0
  | _ => 0

abbrev bufTy : (tb : Table) → Fin (tcTables nBuf tb) → BufTy
  | .hbm, ⟨0, _⟩ => ⟨S12x2048x1024, .bf16⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S2048x2048, .i1⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .bf16⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S256x256, .i32⟩
  | .hbm, ⟨56, _⟩ => ⟨S256x256, .i32⟩
  | .hbm, ⟨57, _⟩ => ⟨S_, .i32⟩
  | .hbm, ⟨58, _⟩ => ⟨S256x256, .i32⟩
  | .hbm, ⟨59, _⟩ => ⟨S256x256, .i1⟩
  | .hbm, ⟨60, _⟩ => ⟨S_, .i32⟩
  | .hbm, ⟨61, _⟩ => ⟨S256x256, .i32⟩
  | .hbm, ⟨62, _⟩ => ⟨S256x256, .i1⟩
  | .hbm, ⟨63, _⟩ => ⟨S_, .i32⟩
  | .hbm, ⟨64, _⟩ => ⟨S_, .i1⟩
  | .hbm, ⟨65, _⟩ => ⟨S256x256, .i1⟩
  | .hbm, ⟨66, _⟩ => ⟨S256x256, .i1⟩
  | .hbm, ⟨67, _⟩ => ⟨S256x256, .i1⟩
  | .hbm, ⟨68, _⟩ => ⟨S256x256, .i32⟩
  | .hbm, ⟨69, _⟩ => ⟨S256x256, .i32⟩
  | .hbm, ⟨70, _⟩ => ⟨S256x256, .i32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S_, .f32⟩
  | .hbm, ⟨77, _⟩ => ⟨S256x256, .f32⟩
  | .hbm, ⟨78, _⟩ => ⟨S256x256, .f32⟩
  | .hbm, ⟨79, _⟩ => ⟨S256x256, .bf16⟩
  | .hbm, ⟨80, _⟩ => ⟨S256x256, .f32⟩
  | .hbm, ⟨81, _⟩ => ⟨S_, .f32⟩
  | .hbm, ⟨82, _⟩ => ⟨S256x256, .f32⟩
  | .hbm, ⟨83, _⟩ => ⟨S256x256, .f32⟩
  | .hbm, ⟨84, _⟩ => ⟨S256x256, .bf16⟩
  | .hbm, ⟨85, _⟩ => ⟨S12x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S256x256, .bf16⟩
  | .local _ .vmem, ⟨7, _⟩ => ⟨S256x256, .bf16⟩
  | .local _ .vmem, ⟨8, _⟩ => ⟨S1x512x1024, .bf16⟩
  | .local _ .vmem, ⟨9, _⟩ => ⟨S1x512x1024, .bf16⟩
  | _, _ => ⟨S12x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_4 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FourierReferenceIdeal.lean ====
abbrev S12x2048x1024 : Shape := ⟨3, ![12, 2048, 1024]⟩
abbrev S12x2048x4x256 : Shape := ⟨4, ![12, 2048, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S12x4x256x2048 : Shape := ⟨4, ![12, 4, 256, 2048]⟩

abbrev nBuf : Space → Nat
  | .hbm => 148
  | .vmem => 0
  | .smem => 0
  | _ => 0

abbrev hbmTy0_0 (i : Nat) : BufTy := match i % 128 with
  | 0 => ⟨S12x2048x1024, .bf16⟩
  | 1 => ⟨S12x2048x1024, .f32⟩
  | 2 => ⟨S12x2048x4x256, .f32⟩
  | 3 => ⟨S256, .i32⟩
  | 4 => ⟨S256x1, .i32⟩
  | 5 => ⟨S1x256, .i32⟩
  | 6 => ⟨S256x256, .i32⟩
  | 7 => ⟨S256x256, .i32⟩
  | 8 => ⟨S256x256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S_, .i32⟩
  | 21 => ⟨S256x256, .i32⟩
  | 22 => ⟨S256x256, .i1⟩
  | 23 => ⟨S_, .i32⟩
  | 24 => ⟨S_, .i1⟩
  | 25 => ⟨S256x256, .i1⟩
  | 26 => ⟨S256x256, .i1⟩
  | 27 => ⟨S256x256, .i1⟩
  | 28 => ⟨S256x256, .i32⟩
  | 29 => ⟨S256x256, .i32⟩
  | 30 => ⟨S256x256, .i32⟩
  | 31 => ⟨S256x256, .f32⟩
  | 32 => ⟨S_, .f32⟩
  | 33 => ⟨S256x256, .f32⟩
  | 34 => ⟨S256x256, .f32⟩
  | 35 => ⟨S256x256, .f32⟩
  | 36 => ⟨S12x2048x4x256, .f32⟩
  | 37 => ⟨S256, .i32⟩
  | 38 => ⟨S256x1, .i32⟩
  | 39 => ⟨S1x256, .i32⟩
  | 40 => ⟨S256x256, .i32⟩
  | 41 => ⟨S256x256, .i32⟩
  | 42 => ⟨S256x256, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S256x256, .i32⟩
  | 50 => ⟨S256x256, .i32⟩
  | 51 => ⟨S_, .i32⟩
  | 52 => ⟨S256x256, .i32⟩
  | 53 => ⟨S256x256, .i1⟩
  | 54 => ⟨S_, .i32⟩
  | 55 => ⟨S256x256, .i32⟩
  | 56 => ⟨S256x256, .i1⟩
  | 57 => ⟨S_, .i32⟩
  | 58 => ⟨S_, .i1⟩
  | 59 => ⟨S256x256, .i1⟩
  | 60 => ⟨S256x256, .i1⟩
  | 61 => ⟨S256x256, .i1⟩
  | 62 => ⟨S256x256, .i32⟩
  | 63 => ⟨S256x256, .i32⟩
  | 64 => ⟨S256x256, .i32⟩
  | 65 => ⟨S256x256, .f32⟩
  | 66 => ⟨S_, .f32⟩
  | 67 => ⟨S256x256, .f32⟩
  | 68 => ⟨S256x256, .f32⟩
  | 69 => ⟨S256x256, .f32⟩
  | 70 => ⟨S12x2048x4x256, .f32⟩
  | 71 => ⟨S12x2048x4x256, .f32⟩
  | 72 => ⟨S2048, .i32⟩
  | 73 => ⟨S2048x1, .i32⟩
  | 74 => ⟨S1x2048, .i32⟩
  | 75 => ⟨S2048x2048, .i32⟩
  | 76 => ⟨S2048x2048, .i32⟩
  | 77 => ⟨S2048x2048, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S2048x2048, .i32⟩
  | 85 => ⟨S2048x2048, .i32⟩
  | 86 => ⟨S_, .i32⟩
  | 87 => ⟨S2048x2048, .i32⟩
  | 88 => ⟨S2048x2048, .i1⟩
  | 89 => ⟨S_, .i32⟩
  | 90 => ⟨S2048x2048, .i32⟩
  | 91 => ⟨S2048x2048, .i1⟩
  | 92 => ⟨S_, .i32⟩
  | 93 => ⟨S_, .i1⟩
  | 94 => ⟨S2048x2048, .i1⟩
  | 95 => ⟨S2048x2048, .i1⟩
  | 96 => ⟨S2048x2048, .i1⟩
  | 97 => ⟨S2048x2048, .i32⟩
  | 98 => ⟨S2048x2048, .i32⟩
  | 99 => ⟨S2048x2048, .i32⟩
  | 100 => ⟨S2048x2048, .f32⟩
  | 101 => ⟨S_, .f32⟩
  | 102 => ⟨S2048x2048, .f32⟩
  | 103 => ⟨S2048x2048, .f32⟩
  | 104 => ⟨S2048x2048, .f32⟩
  | 105 => ⟨S12x4x256x2048, .f32⟩
  | 106 => ⟨S12x2048x4x256, .f32⟩
  | 107 => ⟨S2048, .i32⟩
  | 108 => ⟨S2048x1, .i32⟩
  | 109 => ⟨S1x2048, .i32⟩
  | 110 => ⟨S2048x2048, .i32⟩
  | 111 => ⟨S2048x2048, .i32⟩
  | 112 => ⟨S2048x2048, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S2048x2048, .i32⟩
  | 120 => ⟨S2048x2048, .i32⟩
  | 121 => ⟨S_, .i32⟩
  | 122 => ⟨S2048x2048, .i32⟩
  | 123 => ⟨S2048x2048, .i1⟩
  | 124 => ⟨S_, .i32⟩
  | 125 => ⟨S2048x2048, .i32⟩
  | 126 => ⟨S2048x2048, .i1⟩
  | 127 => ⟨S_, .i32⟩
  | _ => ⟨S12x2048x1024, .bf16⟩

abbrev hbmTy0_1 (i : Nat) : BufTy := match i % 128 with
  | 0 => ⟨S_, .i1⟩
  | 1 => ⟨S2048x2048, .i1⟩
  | 2 => ⟨S2048x2048, .i1⟩
  | 3 => ⟨S2048x2048, .i1⟩
  | 4 => ⟨S2048x2048, .i32⟩
  | 5 => ⟨S2048x2048, .i32⟩
  | 6 => ⟨S2048x2048, .i32⟩
  | 7 => ⟨S2048x2048, .f32⟩
  | 8 => ⟨S_, .f32⟩
  | 9 => ⟨S2048x2048, .f32⟩
  | 10 => ⟨S2048x2048, .f32⟩
  | 11 => ⟨S2048x2048, .f32⟩
  | 12 => ⟨S12x4x256x2048, .f32⟩
  | 13 => ⟨S12x2048x4x256, .f32⟩
  | 14 => ⟨S12x2048x4x256, .f32⟩
  | 15 => ⟨S_, .f32⟩
  | 16 => ⟨S12x2048x4x256, .f32⟩
  | 17 => ⟨S12x2048x4x256, .f32⟩
  | 18 => ⟨S12x2048x1024, .f32⟩
  | 19 => ⟨S12x2048x1024, .bf16⟩
  | _ => ⟨S12x2048x1024, .bf16⟩

abbrev hbmTy (i : Nat) : BufTy := match i / 128 with
  | 0 => hbmTy0_0 i
  | 1 => hbmTy0_1 i
  | _ => ⟨S12x2048x1024, .bf16⟩

abbrev bufTy : (tb : Table) → Fin (tcTables nBuf tb) → BufTy
  | .hbm, ⟨i, _⟩ => hbmTy i
  | _, _ => ⟨S12x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_cst_1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_2 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v33 : Ref sig .tc := ⟨.hbm, 99, rfl⟩
abbrev main_v34 : Ref sig .tc := ⟨.hbm, 100, rfl⟩
abbrev main_cst_3 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_4 : Ref sig .tc := ⟨.hbm, 113, rfl⟩
abbrev main_call3_v0 : Ref sig .tc := ⟨.hbm, 114, rfl⟩
abbrev main_call3_c : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_c_1 : Ref sig .tc := ⟨.hbm, 121, rfl⟩
abbrev main_call3_v5 : Ref sig .tc := ⟨.hbm, 122, rfl⟩
abbrev main_call3_v6 : Ref sig .tc := ⟨.hbm, 123, rfl⟩
abbrev main_call3_c_2 : Ref sig .tc := ⟨.hbm, 124, rfl⟩
abbrev main_call3_v7 : Ref sig .tc := ⟨.hbm, 125, rfl⟩
abbrev main_call3_v8 : Ref sig .tc := ⟨.hbm, 126, rfl⟩
abbrev main_call3_c_3 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_v46 : Ref sig .tc := ⟨.hbm, 134, rfl⟩
abbrev main_v47 : Ref sig .tc := ⟨.hbm, 135, rfl⟩
abbrev main_cst_5 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_6 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩

abbrev nD : Nat := 1
abbrev τ : Topo := Topo.v7x

variable {F : FTy → Type} [FloatOps F]
-- ==== Proof.Na.Row.lean ====
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Na

open Cert.KernelIdeal Cert.KernelIdeal.Gen Idealize.ShloMosaic Idealize.ShloMosaic.TcCoe Idealize.SL.Sem

variable {F : FTy → Type} [FloatOps F]

/-- The lanes of the pair's first head: lane below 64. -/
def firstHead : IVec S64x128 1 :=
  cmpi .slt (iota .tc S64x128 32 [1] iota_S64x128_d1_w32) (broadcast S64x128 64#32)

/-- The scores of one head for the 64 queries of a row against the 512 keys of its slab: the masked queries times the
    keys, times 1/8, plus the bias slab. -/
def scoresOf (msk : IVec S64x128 1) (q : Vec F S1x64x128 .bf16) (k : Vec F S1x512x128 .bf16)
    (b : Vec F S1x1x64x512 .f32) : FVec F S64x512 .f32 :=
  addf
    (mulf
      (matmul dot_S64x128_S512x128_S64x512_1_1_0_0_n_n none
        (select msk (shapeCast S64x128 q shapeCasts_S1x64x128_S64x128)
          (broadcast S64x128 (Scalar.ofBits .bf16 0x0000#16 : F .bf16)))
        (shapeCast S512x128 k shapeCasts_S1x512x128_S512x128)
        (constant S64x512 .f32 0x00000000#32))
      (broadcast S64x512 (Scalar.ofBits .f32 0x3E000000#32 : F .f32)))
    (shapeCast S64x512 b shapeCasts_S1x1x64x512_S64x512)

/-- The exponentials of the scores less their row's largest. -/
def weightsOf (s : FVec F S64x512 .f32) : FVec F S64x512 .f32 :=
  exp (subf s (broadcastTo S64x512
    (shapeCast S64x1 (multiReduction .maximumf [1] S64 s 0xFF800000#32 reduces_S64x512_S64 (.inl rfl) rfl)
      shapeCasts_S64_S64x1) broadcasts_S64x1_S64x512))

/-- The weighted sum of the values divided by the sum of the weights. -/
def averageOf (p : FVec F S64x512 .f32) (v : Vec F S1x512x128 .bf16) : FVec F S64x128 .f32 :=
  divf
    (matmul dot_S64x512_S512x128_S64x128_1_0_0_1_n_n none (truncf .bf16 p bitsLt_bf16_f32)
      (shapeCast S512x128 v shapeCasts_S1x512x128_S512x128) (constant S64x128 .f32 0x00000000#32))
    (broadcastTo S64x128
      (shapeCast S64x1 (multiReduction .add [1] S64 p 0x00000000#32 reduces_S64x512_S64 (.inl rfl) rfl)
        shapeCasts_S64_S64x1) broadcasts_S64x1_S64x128)

/-- What the kernel stores for one row of 64 queries and one pair of heads. -/
def rowOf (q : Vec F S1x64x128 .bf16) (k v : Vec F S1x512x128 .bf16) (b0 b1 : Vec F S1x1x64x512 .f32) :
    Vec F S1x64x128 .bf16 :=
  shapeCast S1x64x128
    (truncf .bf16
      (select firstHead
        (averageOf (weightsOf (scoresOf firstHead q k b0)) v)
        (averageOf (weightsOf (scoresOf (xori firstHead (constantI S64x128 1 1#1)) q k b1)) v))
      bitsLt_bf16_f32) shapeCasts_S64x128_S1x64x128

/-- The store of row `8 k + r`: the row's rectangle of the output block, with the row's result over the slabs read. -/
def pieceOf (X2 X3 X4 : Vec F S1x2048x128 .bf16) (X5 : Vec F S2x8x64x512 .f32) (k : Fin k0_t1_loop.trips) (r : Fin 8) :
    View.Piece (Elt F) S1x2048x128 .bf16 :=
  ⟨Rect.unit (s := S1x2048x128) (k0_off1 k (BitVec.ofNat 32 r.val)) S1x64x128.size (k0_off1_inb k r),
    rowOf
      (View.ld X2 (Rect.unit (s := S1x2048x128) (k0_off1 k (BitVec.ofNat 32 r.val)) S1x64x128.size (k0_off1_inb k r)))
      (View.ld X3 (Rect.unit (s := S1x2048x128) (k0_off2 k (BitVec.ofNat 32 r.val)) S1x512x128.size (k0_off2_inb k r)))
      (View.ld X4 (Rect.unit (s := S1x2048x128) (k0_off2 k (BitVec.ofNat 32 r.val)) S1x512x128.size (k0_off2_inb k r)))
      (View.ld X5 (Rect.unit (s := S2x8x64x512) (k0_off3 k (BitVec.ofNat 32 r.val)) S1x1x64x512.size (k0_off3_inb k r)))
      (View.ld X5 (Rect.unit (s := S2x8x64x512) (k0_off4 k (BitVec.ofNat 32 r.val)) S1x1x64x512.size (k0_off4_inb k r)))⟩

/-- One trip of the loop stores eight rows, the last first in the list. -/
theorem trip_pieces (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x8x64x512 .f32) (harg5 : arg5.IsWhole) (arg6 : Memref sig .tc .vmem S1x2048x128 .bf16) (harg6 : arg6.IsWhole) (X2 X3 X4 : Vec F S1x2048x128 .bf16) (X5 : Vec F S2x8x64x512 .f32) (k : Fin k0_t1_loop.trips) :
    tripL_k0_t1 (F := F) 𝒱 c bd i arg2 harg2 arg3 harg3 arg4 harg4 arg5 harg5 arg6 harg6 (harg2.unread X2) (harg3.unread X3) (harg4.unread X4) (harg5.unread X5) k
      = [pieceOf X2 X3 X4 X5 k 7, pieceOf X2 X3 X4 X5 k 6, pieceOf X2 X3 X4 X5 k 5, pieceOf X2 X3 X4 X5 k 4,
         pieceOf X2 X3 X4 X5 k 3, pieceOf X2 X3 X4 X5 k 2, pieceOf X2 X3 X4 X5 k 1, pieceOf X2 X3 X4 X5 k 0] := by
  obtain ⟨f2, hf2⟩ : ∃ f2, f2 = harg2.unread X2 := ⟨_, rfl⟩
  obtain ⟨f3, hf3⟩ : ∃ f3, f3 = harg3.unread X3 := ⟨_, rfl⟩
  obtain ⟨f4, hf4⟩ : ∃ f4, f4 = harg4.unread X4 := ⟨_, rfl⟩
  obtain ⟨f5, hf5⟩ : ∃ f5, f5 = harg5.unread X5 := ⟨_, rfl⟩
  rw [← hf2, ← hf3, ← hf4, ← hf5]
  have e2 : X2 = arg2.view.read (Elt F) f2 := by rw [hf2, harg2.read_unread]
  have e3 : X3 = arg3.view.read (Elt F) f3 := by rw [hf3, harg3.read_unread]
  have e4 : X4 = arg4.view.read (Elt F) f4 := by rw [hf4, harg4.read_unread]
  have e5 : X5 = arg5.view.read (Elt F) f5 := by rw [hf5, harg5.read_unread]
  rw [e2, e3, e4, e5]
  unfold tripL_k0_t1 trip_k0_t1
  rfl

/-- The first key row of the slab that query row `w` sees. -/
def slabStart (w : Fin 32) : Nat := min (w.val - 4) 24

/-- A slab starts at row 24 at the latest. -/
theorem slabStart_le (w : Fin 32) : slabStart w ≤ 24 := Nat.min_le_right _ _

/-- Which of the eight bias slabs query row `w` uses. -/
def slabBias (w : Fin 32) : Nat := slabStart w + 7 - w.val

/-- There are eight bias slabs. -/
theorem slabBias_lt (w : Fin 32) : slabBias w < 8 := by
  unfold slabBias slabStart; omega

/-- The queries of row `8 k + r` start at position `64 (8 k + r)`. -/
theorem off1_eq : ∀ (k : Fin k0_t1_loop.trips) (r : Fin 8) (a : Fin 3),
    k0_off1 k (BitVec.ofNat 32 r.val) a = (![0, 64 * (8 * k.val + r.val), 0] : Fin 3 → Nat) a := by decide +kernel

/-- The keys of row `8 k + r` start at the first position of its slab. -/
theorem off2_eq : ∀ (k : Fin k0_t1_loop.trips) (r : Fin 8) (a : Fin 3),
    k0_off2 k (BitVec.ofNat 32 r.val) a
      = (![0, 64 * min (8 * k.val + r.val - 4) 24, 0] : Fin 3 → Nat) a := by decide +kernel

/-- The first head's bias slab for row `8 k + r`. -/
theorem off3_eq : ∀ (k : Fin k0_t1_loop.trips) (r : Fin 8) (a : Fin 4),
    k0_off3 k (BitVec.ofNat 32 r.val) a
      = (![0, min (8 * k.val + r.val - 4) 24 + 7 - (8 * k.val + r.val), 0, 0] : Fin 4 → Nat) a := by decide +kernel

/-- The second head's bias slab for row `8 k + r`. -/
theorem off4_eq : ∀ (k : Fin k0_t1_loop.trips) (r : Fin 8) (a : Fin 4),
    k0_off4 k (BitVec.ofNat 32 r.val) a
      = (![1, min (8 * k.val + r.val - 4) 24 + 7 - (8 * k.val + r.val), 0, 0] : Fin 4 → Nat) a := by decide +kernel

/-- The 64 positions of row `w`. -/
def rowAt (X : Vec F S1x2048x128 .bf16) (w : Fin 32) : Vec F S1x64x128 .bf16 :=
  fun i => X (ix3 (0 : Fin 1) (⟨64 * w.val + (i 1).val, by have h : (i 1).val < 64 := (i 1).isLt; omega⟩ : Fin 2048)
    (⟨(i 2).val, (i 2).isLt⟩ : Fin 128))

/-- The 512 positions of the slab that row `w` sees. -/
def slabAt (X : Vec F S1x2048x128 .bf16) (w : Fin 32) : Vec F S1x512x128 .bf16 :=
  fun i => X (ix3 (0 : Fin 1) (⟨64 * slabStart w + (i 1).val, by
      have h : (i 1).val < 512 := (i 1).isLt
      have := slabStart_le w; omega⟩ : Fin 2048)
    (⟨(i 2).val, (i 2).isLt⟩ : Fin 128))

/-- The bias slab of head `h` of the pair for row `w`. -/
def biasAt (X : Vec F S2x8x64x512 .f32) (h : Fin 2) (w : Fin 32) : Vec F S1x1x64x512 .f32 :=
  fun i => X (ix4 h (⟨slabBias w, slabBias_lt w⟩ : Fin 8) (⟨(i 2).val, (i 2).isLt⟩ : Fin 64)
    (⟨(i 3).val, (i 3).isLt⟩ : Fin 512))

/-- What the kernel leaves at a place of its output block. -/
def bandOf (X2 X3 X4 : Vec F S1x2048x128 .bf16) (X5 : Vec F S2x8x64x512 .f32) : Vec F S1x2048x128 .bf16 := fun y =>
  have hy : (y 1).val < 2048 := (y 1).isLt
  let w : Fin 32 := ⟨(y 1).val / 64, by omega⟩
  rowOf (rowAt X2 w) (slabAt X3 w) (slabAt X4 w) (biasAt X5 0 w) (biasAt X5 1 w)
    (ix3 (0 : Fin 1) (⟨(y 1).val % 64, Nat.mod_lt _ (by norm_num)⟩ : Fin 64) (⟨(y 2).val, (y 2).isLt⟩ : Fin 128))

/-- The loop makes four trips. -/
theorem trips_eq : k0_t1_loop.trips = 4 := by decide +kernel

/-- Row `8 k + r` as one of the 32 rows. -/
def rowIx (k : Fin k0_t1_loop.trips) (r : Fin 8) : Fin 32 :=
  ⟨8 * k.val + r.val, by have h := Nat.lt_of_lt_of_eq k.isLt trips_eq; omega⟩

/-- The number of that row. -/
theorem rowIx_val (k : Fin k0_t1_loop.trips) (r : Fin 8) : (rowIx k r).val = 8 * k.val + r.val := rfl

/-- The kernel's load of the queries reads the row. -/
theorem ld_row (X : Vec F S1x2048x128 .bf16) (k : Fin k0_t1_loop.trips) (r : Fin 8) :
    View.ld X (Rect.unit (s := S1x2048x128) (k0_off1 k (BitVec.ofNat 32 r.val)) S1x64x128.size (k0_off1_inb k r))
      = rowAt X (rowIx k r) := by
  funext i
  unfold rowAt
  refine congrArg X (funext fun a => Fin.ext ?_)
  have h := off1_eq k r a
  match a with
  | ⟨0, _⟩ =>
    have hi : (i 0).val < 1 := (i 0).isLt
    show k0_off1 k (BitVec.ofNat 32 r.val) 0 + 1 * (i 0).val = 0
    rw [off1_eq]; simp; omega
  | ⟨1, _⟩ =>
    show k0_off1 k (BitVec.ofNat 32 r.val) 1 + 1 * (i 1).val = 64 * (rowIx k r).val + (i 1).val
    rw [off1_eq, rowIx_val]; simp
  | ⟨2, _⟩ =>
    show k0_off1 k (BitVec.ofNat 32 r.val) 2 + 1 * (i 2).val = (i 2).val
    rw [off1_eq]; simp

/-- The kernel's load of the keys, or of the values, reads the row's slab. -/
theorem ld_slab (X : Vec F S1x2048x128 .bf16) (k : Fin k0_t1_loop.trips) (r : Fin 8) :
    View.ld X (Rect.unit (s := S1x2048x128) (k0_off2 k (BitVec.ofNat 32 r.val)) S1x512x128.size (k0_off2_inb k r))
      = slabAt X (rowIx k r) := by
  funext i
  unfold slabAt
  refine congrArg X (funext fun a => Fin.ext ?_)
  match a with
  | ⟨0, _⟩ =>
    have hi : (i 0).val < 1 := (i 0).isLt
    show k0_off2 k (BitVec.ofNat 32 r.val) 0 + 1 * (i 0).val = 0
    rw [off2_eq]; simp; omega
  | ⟨1, _⟩ =>
    show k0_off2 k (BitVec.ofNat 32 r.val) 1 + 1 * (i 1).val
      = 64 * slabStart (rowIx k r) + (i 1).val
    rw [off2_eq]; unfold slabStart; rw [rowIx_val]; simp
  | ⟨2, _⟩ =>
    show k0_off2 k (BitVec.ofNat 32 r.val) 2 + 1 * (i 2).val = (i 2).val
    rw [off2_eq]; simp

/-- The kernel's first load of the bias reads the first head's slab. -/
theorem ld_bias0 (X : Vec F S2x8x64x512 .f32) (k : Fin k0_t1_loop.trips) (r : Fin 8) :
    View.ld X (Rect.unit (s := S2x8x64x512) (k0_off3 k (BitVec.ofNat 32 r.val)) S1x1x64x512.size (k0_off3_inb k r))
      = biasAt X 0 (rowIx k r) := by
  funext i
  unfold biasAt
  refine congrArg X (funext fun a => Fin.ext ?_)
  match a with
  | ⟨0, _⟩ =>
    have hi : (i 0).val < 1 := (i 0).isLt
    show k0_off3 k (BitVec.ofNat 32 r.val) 0 + 1 * (i 0).val = 0
    rw [off3_eq]; simp; omega
  | ⟨1, _⟩ =>
    have hi : (i 1).val < 1 := (i 1).isLt
    show k0_off3 k (BitVec.ofNat 32 r.val) 1 + 1 * (i 1).val
      = slabBias (rowIx k r)
    rw [off3_eq]; unfold slabBias slabStart; rw [rowIx_val]; simp; omega
  | ⟨2, _⟩ =>
    show k0_off3 k (BitVec.ofNat 32 r.val) 2 + 1 * (i 2).val = (i 2).val
    rw [off3_eq]; simp
  | ⟨3, _⟩ =>
    show k0_off3 k (BitVec.ofNat 32 r.val) 3 + 1 * (i 3).val = (i 3).val
    rw [off3_eq]; simp

/-- The kernel's second load of the bias reads the second head's slab. -/
theorem ld_bias1 (X : Vec F S2x8x64x512 .f32) (k : Fin k0_t1_loop.trips) (r : Fin 8) :
    View.ld X (Rect.unit (s := S2x8x64x512) (k0_off4 k (BitVec.ofNat 32 r.val)) S1x1x64x512.size (k0_off4_inb k r))
      = biasAt X 1 (rowIx k r) := by
  funext i
  unfold biasAt
  refine congrArg X (funext fun a => Fin.ext ?_)
  match a with
  | ⟨0, _⟩ =>
    have hi : (i 0).val < 1 := (i 0).isLt
    show k0_off4 k (BitVec.ofNat 32 r.val) 0 + 1 * (i 0).val = 1
    rw [off4_eq]; simp; omega
  | ⟨1, _⟩ =>
    have hi : (i 1).val < 1 := (i 1).isLt
    show k0_off4 k (BitVec.ofNat 32 r.val) 1 + 1 * (i 1).val
      = slabBias (rowIx k r)
    rw [off4_eq]; unfold slabBias slabStart; rw [rowIx_val]; simp; omega
  | ⟨2, _⟩ =>
    show k0_off4 k (BitVec.ofNat 32 r.val) 2 + 1 * (i 2).val = (i 2).val
    rw [off4_eq]; simp
  | ⟨3, _⟩ =>
    show k0_off4 k (BitVec.ofNat 32 r.val) 3 + 1 * (i 3).val = (i 3).val
    rw [off4_eq]; simp

/-- Every store writes the values of `bandOf` at its own places. -/
theorem piece_band (X2 X3 X4 : Vec F S1x2048x128 .bf16) (X5 : Vec F S2x8x64x512 .f32) (k : Fin k0_t1_loop.trips)
    (r : Fin 8) (x : (pieceOf X2 X3 X4 X5 k r).fst.shape.Idx) :
    (pieceOf X2 X3 X4 X5 k r).snd x = bandOf X2 X3 X4 X5 ((pieceOf X2 X3 X4 X5 k r).fst.emb x) := by
  have hx : (x 1).val < 64 := (x 1).isLt
  have hx0 : (x 0).val < 1 := (x 0).isLt
  have e1 : ((pieceOf X2 X3 X4 X5 k r).fst.emb x 1).val = 64 * (8 * k.val + r.val) + (x 1).val := by
    show k0_off1 k (BitVec.ofNat 32 r.val) 1 + 1 * (x 1).val = _
    rw [off1_eq]; simp
  have e2 : ((pieceOf X2 X3 X4 X5 k r).fst.emb x 2).val = (x 2).val := by
    show k0_off1 k (BitVec.ofNat 32 r.val) 2 + 1 * (x 2).val = _
    rw [off1_eq]; simp
  have hw : (⟨((pieceOf X2 X3 X4 X5 k r).fst.emb x 1).val / 64, by rw [e1]; have h := Nat.lt_of_lt_of_eq k.isLt trips_eq; omega⟩ : Fin 32)
      = rowIx k r := Fin.ext (by show _ / 64 = 8 * k.val + r.val; rw [e1]; omega)
  unfold bandOf
  dsimp only
  rw [hw]
  show rowOf _ _ _ _ _ x = _
  rw [ld_row, ld_slab, ld_slab, ld_bias0, ld_bias1]
  refine congrArg _ (funext fun a => Fin.ext ?_)
  match a with
  | ⟨0, _⟩ => show (x 0).val = 0; omega
  | ⟨1, _⟩ => show (x 1).val = _ % 64; rw [e1]; omega
  | ⟨2, _⟩ => exact e2.symm

/-- Every store of the loop is one of the rows'. -/
theorem mem_pieces (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x8x64x512 .f32) (harg5 : arg5.IsWhole) (arg6 : Memref sig .tc .vmem S1x2048x128 .bf16) (harg6 : arg6.IsWhole) (X2 X3 X4 : Vec F S1x2048x128 .bf16) (X5 : Vec F S2x8x64x512 .f32)
    (n : ℕ) (hn : n ≤ k0_t1_loop.trips) :
    ∀ p ∈ pb_k0_t1 (F := F) 𝒱 c bd i arg2 harg2 arg3 harg3 arg4 harg4 arg5 harg5 arg6 harg6 (harg2.unread X2) (harg3.unread X3) (harg4.unread X4) (harg5.unread X5) n,
      ∃ k r, p = pieceOf X2 X3 X4 X5 k r := by
  induction n with
  | zero => intro p hp; exact absurd hp List.not_mem_nil
  | succ n ih =>
    intro p hp
    rw [pb_k0_t1_succ 𝒱 c bd i arg2 harg2 arg3 harg3 arg4 harg4 arg5 harg5 arg6 harg6 _ _ _ _ ⟨n, hn⟩, trip_pieces] at hp
    rcases List.mem_append.mp hp with h | h
    · simp only [List.mem_cons, List.not_mem_nil, or_false] at h
      rcases h with h | h | h | h | h | h | h | h <;> exact ⟨_, _, h⟩
    · exact ih (Nat.le_of_succ_le hn) p h

/-- What the body leaves in the output block at a grid point. -/
theorem out_band (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x8x64x512 .f32) (harg5 : arg5.IsWhole) (arg6 : Memref sig .tc .vmem S1x2048x128 .bf16) (harg6 : arg6.IsWhole)
    (x0 x1 x2 : Vec F S1x2048x128 .bf16) (x3 : Vec F S2x8x64x512 .f32) :
    out0_A_4 c i arg2 harg2 arg3 harg3 arg4 harg4 arg5 harg5 arg6 harg6 x0 x1 x2 x3 = bandOf x0 x1 x2 x3 := by
  funext y
  unfold out0_A_4
  rw [View.read_writes_junk_apply_eq_canon]
  refine View.canon_apply_of_pieces _ _ (fun p hp x => ?_) y (cover0_A_4 c i arg2 harg2 arg3 harg3 arg4 harg4 arg5 harg5 arg6 harg6 x0 x1 x2 x3 y)
  obtain ⟨k, r, rfl⟩ := mem_pieces Variants.none c none i arg2 harg2 arg3 harg3 arg4 harg4 arg5 harg5 arg6 harg6 x0 x1 x2 x3
    _ (Nat.le_refl _) p hp
  exact piece_band x0 x1 x2 x3 k r x

end Cert.Na

end
-- ==== Proof.Na.RowIdeal.lean ====
module

public import proofs.«01_k».proof.Proof.Na.Row
public import Idealize.ShloMosaic.Lib.Pointwise

@[expose] public section

set_option maxRecDepth 16384

noncomputable section

namespace Cert.Na

open Cert.KernelIdeal Idealize.ShloMosaic

/-- The scores at query `x` and key `n`: the sum over the lanes that the mask keeps, times 1/8, plus the bias. -/
theorem scoresOf_apply (msk : IVec S64x128 1) (q : Vec Ideal S1x64x128 .bf16) (k : Vec Ideal S1x512x128 .bf16)
    (b : Vec Ideal S1x1x64x512 .f32) (x : Fin 64) (n : Fin 512) :
    scoresOf msk q k b (ix2 x n)
      = (∑ l, Scalar.select (msk (ix2 x l)) (q (ix3 0 x l) * k (ix3 0 n l)) 0) * Ideal.ofBits FTy.f32 1040187392#32
          + b (ix4 0 0 x n) := by
  unfold scoresOf
  pointwise

/-- The weights at query `x` and key `n`: the exponential of the score less the row's largest. -/
theorem weightsOf_apply (s : FVec Ideal S64x512 .f32) (x : Fin 64) (n : Fin 512) :
    weightsOf s (ix2 x n)
      = Ideal.exp (s (ix2 x n) - Finset.fold max (Ideal.ofBits FTy.f32 4286578688#32) (fun n' => s (ix2 x n')) Finset.univ) := by
  unfold weightsOf
  pointwise

/-- The average at query `x` and lane `l`: the weighted sum of the values over the sum of the weights. -/
theorem averageOf_apply (p : FVec Ideal S64x512 .f32) (v : Vec Ideal S1x512x128 .bf16) (x : Fin 64) (l : Fin 128) :
    averageOf p v (ix2 x l) = Ideal.div (∑ n, p (ix2 x n) * v (ix3 0 n l)) (∑ n, p (ix2 x n)) := by
  unfold averageOf
  pointwise

/-- The row at query `x` and lane `l`: the first head's average on the lanes below 64, the second head's on the others. -/
theorem rowOf_apply (q : Vec Ideal S1x64x128 .bf16) (k v : Vec Ideal S1x512x128 .bf16) (b0 b1 : Vec Ideal S1x1x64x512 .f32)
    (x : Fin 64) (l : Fin 128) :
    rowOf q k v b0 b1 (ix3 (0 : Fin 1) x l)
      = Scalar.select (firstHead (ix2 x l))
          (averageOf (weightsOf (scoresOf firstHead q k b0)) v (ix2 x l))
          (averageOf (weightsOf (scoresOf (xori firstHead (constantI S64x128 1 1#1)) q k b1)) v (ix2 x l)) := by
  unfold rowOf firstHead
  pointwise

/-- The mask of the first head at a lane. -/
theorem firstHead_apply (x : Fin 64) (l : Fin 128) : firstHead (ix2 x l) = if l.val < 64 then 1#1 else 0#1 := by
  have h : firstHead (ix2 x l) = IntOp.cmpi .slt (BitVec.ofNat 32 l.val) 64#32 := by
    unfold firstHead
    pointwise
  rw [h]
  clear h
  revert l
  decide +kernel

/-- The mask of the second head at a lane. -/
theorem secondHead_apply (x : Fin 64) (l : Fin 128) :
    (xori firstHead (constantI S64x128 1 1#1)) (ix2 x l) = if l.val < 64 then 0#1 else 1#1 := by
  have h : (xori firstHead (constantI S64x128 1 1#1)) (ix2 x l) = IntOp.xori (firstHead (ix2 x l)) 1#1 := by
    pointwise
  rw [h, firstHead_apply]
  split <;> rfl

/-- Lane `d` of head `h` of the pair. -/
def headLane (h : Fin 2) (d : Fin 64) : Fin 128 := ⟨64 * h.val + d.val, by omega⟩

/-- A sum over 128 lanes is the sum over the first head's lanes plus the sum over the second head's. -/
theorem sum_lanes (f : Fin 128 → EReal) : ∑ l, f l = ∑ d, f (headLane 0 d) + ∑ d, f (headLane 1 d) := by
  have h := Fin.sum_univ_add (a := 64) (b := 64) f
  refine h.trans (congrArg₂ (· + ·) ?_ ?_)
  · refine Finset.sum_congr rfl fun d _ => congrArg f (Fin.ext ?_)
    show d.val = 64 * 0 + d.val
    omega
  · refine Finset.sum_congr rfl fun d _ => congrArg f (Fin.ext ?_)
    show 64 + d.val = 64 * 1 + d.val
    omega

/-- The first head's scores: the sum is over the first 64 lanes. -/
theorem scores_first (q : Vec Ideal S1x64x128 .bf16) (k : Vec Ideal S1x512x128 .bf16)
    (b : Vec Ideal S1x1x64x512 .f32) (x : Fin 64) (n : Fin 512) :
    scoresOf firstHead q k b (ix2 x n)
      = (∑ d, q (ix3 0 x (headLane 0 d)) * k (ix3 0 n (headLane 0 d))) * Ideal.ofBits FTy.f32 1040187392#32
          + b (ix4 0 0 x n) := by
  have h0 : ∀ d, Scalar.select (firstHead (ix2 x (headLane 0 d)))
      ((q (ix3 0 x (headLane 0 d)) : EReal) * k (ix3 0 n (headLane 0 d))) 0
      = q (ix3 0 x (headLane 0 d)) * k (ix3 0 n (headLane 0 d)) := fun d => by
    rw [firstHead_apply, if_pos (show (headLane 0 d).val < 64 by show 64 * 0 + d.val < 64; omega)]; rfl
  have h1 : ∀ d, Scalar.select (firstHead (ix2 x (headLane 1 d)))
      ((q (ix3 0 x (headLane 1 d)) : EReal) * k (ix3 0 n (headLane 1 d))) 0 = 0 := fun d => by
    rw [firstHead_apply, if_neg (show ¬ (headLane 1 d).val < 64 by show ¬ 64 * 1 + d.val < 64; omega)]; rfl
  rw [scoresOf_apply, sum_lanes, Finset.sum_congr rfl fun d _ => h0 d, Finset.sum_congr rfl fun d _ => h1 d,
    Finset.sum_const_zero, add_zero]

/-- The second head's scores: the sum is over the last 64 lanes. -/
theorem scores_second (q : Vec Ideal S1x64x128 .bf16) (k : Vec Ideal S1x512x128 .bf16)
    (b : Vec Ideal S1x1x64x512 .f32) (x : Fin 64) (n : Fin 512) :
    scoresOf (xori firstHead (constantI S64x128 1 1#1)) q k b (ix2 x n)
      = (∑ d, q (ix3 0 x (headLane 1 d)) * k (ix3 0 n (headLane 1 d))) * Ideal.ofBits FTy.f32 1040187392#32
          + b (ix4 0 0 x n) := by
  have h0 : ∀ d, Scalar.select ((xori firstHead (constantI S64x128 1 1#1)) (ix2 x (headLane 0 d)))
      ((q (ix3 0 x (headLane 0 d)) : EReal) * k (ix3 0 n (headLane 0 d))) 0 = 0 := fun d => by
    rw [secondHead_apply, if_pos (show (headLane 0 d).val < 64 by show 64 * 0 + d.val < 64; omega)]; rfl
  have h1 : ∀ d, Scalar.select ((xori firstHead (constantI S64x128 1 1#1)) (ix2 x (headLane 1 d)))
      ((q (ix3 0 x (headLane 1 d)) : EReal) * k (ix3 0 n (headLane 1 d))) 0
      = q (ix3 0 x (headLane 1 d)) * k (ix3 0 n (headLane 1 d)) := fun d => by
    rw [secondHead_apply, if_neg (show ¬ (headLane 1 d).val < 64 by show ¬ 64 * 1 + d.val < 64; omega)]; rfl
  rw [scoresOf_apply, sum_lanes, Finset.sum_congr rfl fun d _ => h0 d, Finset.sum_congr rfl fun d _ => h1 d,
    Finset.sum_const_zero, zero_add]

end Cert.Na

end
-- ==== Proof.Na.Geometry.lean ====
module

public import Mathlib.Algebra.Order.Group.Nat

@[expose] public section

namespace Cert.Na

/-- The first of the eight grid rows that the queries of grid row `r` see. -/
def rowStart (r : Nat) : Nat := min (r - 4) 24

/-- The first of the sixteen grid columns that the queries of grid column `q` see. -/
def windowStart (q : Nat) : Nat := min (q - 8) 48

end Cert.Na
-- ==== Proof.Na.Softmax.lean ====
module

public import Idealize.ShloMosaic.Lib.IdealHost
public import Mathlib.Data.EReal.Inv

@[expose] public section

noncomputable section

namespace Cert.Na

open Idealize.ShloMosaic

variable {ι κ : Type} [Fintype ι] [Fintype κ]

/-- The largest of a family of scores. -/
def top (s : ι → EReal) : EReal := Finset.fold max ⊥ s Finset.univ

/-- The softmax average of the values `v` under the scores `s`, with one division at the end. -/
def attend (s v : ι → EReal) : EReal :=
  Ideal.div (∑ i, Ideal.exp (s i - top s) * v i) (∑ i, Ideal.exp (s i - top s))

/-- Scores that are minus infinity outside the image of `e` have the largest score of the image. -/
theorem top_embed (e : κ → ι) (s : ι → EReal) (hs : ∀ i, (∀ k, e k ≠ i) → s i = ⊥) :
    top s = top fun k => s (e k) := by
  refine le_antisymm ?_ ?_
  · refine (Finset.fold_max_le _).2 ⟨bot_le, fun i _ => ?_⟩
    by_cases h : ∃ k, e k = i
    · obtain ⟨k, rfl⟩ := h
      exact (Finset.le_fold_max _).2 (Or.inr ⟨k, Finset.mem_univ k, le_rfl⟩)
    · rw [hs i fun k hk => h ⟨k, hk⟩]
      exact bot_le
  · refine (Finset.fold_max_le _).2 ⟨bot_le, fun k _ => ?_⟩
    exact (Finset.le_fold_max _).2 (Or.inr ⟨e k, Finset.mem_univ _, le_rfl⟩)

/-- A sum whose terms are zero outside the image of `e` is the sum over the image. -/
theorem sum_embed (e : κ → ι) (he : Function.Injective e) (f : ι → EReal) (hf : ∀ i, (∀ k, e k ≠ i) → f i = 0) :
    ∑ i, f i = ∑ k, f (e k) :=
  (Fintype.sum_of_injective e he (fun k => f (e k)) f (fun i hi => hf i fun k hk => hi ⟨k, hk⟩) fun _ => rfl).symm

/-- Keys whose score is minus infinity take no part in the average. -/
theorem attend_embed (e : κ → ι) (he : Function.Injective e) (s v : ι → EReal) (hs : ∀ i, (∀ k, e k ≠ i) → s i = ⊥) :
    attend s v = attend (fun k => s (e k)) fun k => v (e k) := by
  have hz : ∀ i, (∀ k, e k ≠ i) → Ideal.exp (s i - top s) = 0 := fun i hi => by
    rw [hs i hi, sub_eq_add_neg, EReal.bot_add, Ideal.exp_bot]
  unfold attend
  rw [sum_embed e he (fun i => Ideal.exp (s i - top s) * v i) fun i hi => by rw [hz i hi, zero_mul],
    sum_embed e he (fun i => Ideal.exp (s i - top s)) hz, top_embed e s hs]

/-- A nonnegative real factor moves into a sum. -/
theorem sum_mul_real (f : ι → EReal) (r : ℝ) (hr : 0 ≤ r) : (∑ i, f i) * (r : EReal) = ∑ i, f i * (r : EReal) := by
  classical
  refine Finset.induction_on (Finset.univ : Finset ι) ?_ ?_
  · simp
  · intro i t hi ih
    rw [Finset.sum_insert hi, Finset.sum_insert hi, ← ih,
      EReal.right_distrib_of_nonneg_of_ne_top (EReal.coe_nonneg.2 hr) (EReal.coe_ne_top r)]

/-- A sum of real numbers is a real number: the sum. -/
theorem sum_real (f : ι → ℝ) : ∑ i, (f i : EReal) = ((∑ i, f i : ℝ) : EReal) := by
  classical
  refine Finset.induction_on (Finset.univ : Finset ι) ?_ ?_
  · simp
  · intro i t hi ih
    rw [Finset.sum_insert hi, Finset.sum_insert hi, ih, EReal.coe_add]

/-- The largest of a nonempty family of real scores is real. -/
theorem top_real [Nonempty ι] (s : ι → EReal) (hs : ∀ i, ∃ a : ℝ, s i = a) : ∃ M : ℝ, top s = M := by
  have hlt : top s < ⊤ := (Finset.fold_max_lt _).2 ⟨bot_lt_top, fun i _ => by
    obtain ⟨a, ha⟩ := hs i
    rw [ha]; exact EReal.coe_lt_top a⟩
  have hgt : ⊥ < top s := by
    obtain ⟨i⟩ := ‹Nonempty ι›
    obtain ⟨a, ha⟩ := hs i
    exact lt_of_lt_of_le (by rw [ha]; exact EReal.bot_lt_coe a) ((Finset.le_fold_max _).2 (Or.inr ⟨i, Finset.mem_univ i, le_rfl⟩))
  exact ⟨(top s).toReal, (EReal.coe_toReal hlt.ne hgt.ne').symm⟩

/-- With real scores the weights' sum is a positive real. -/
theorem weights_real [Nonempty ι] (s : ι → EReal) (hs : ∀ i, ∃ a : ℝ, s i = a) :
    ∃ L : ℝ, 0 < L ∧ ∑ i, Ideal.exp (s i - top s) = L := by
  obtain ⟨M, hM⟩ := top_real s hs
  choose a ha using hs
  refine ⟨∑ i, Real.exp (a i - M), Finset.sum_pos (fun i _ => Real.exp_pos _) Finset.univ_nonempty, ?_⟩
  rw [← sum_real]
  refine Finset.sum_congr rfl fun i _ => ?_
  rw [hM, ha i, ← EReal.coe_sub, Ideal.exp_coe]

/-- With real scores, dividing at the end is dividing each weight. -/
theorem attend_eq [Nonempty ι] (s v : ι → EReal) (hs : ∀ i, ∃ a : ℝ, s i = a) :
    attend s v = ∑ i, Ideal.div (Ideal.exp (s i - top s)) (∑ i', Ideal.exp (s i' - top s)) * v i := by
  obtain ⟨L, hL, e⟩ := weights_real s hs
  unfold attend
  rw [e, Ideal.div_coe hL.ne', sum_mul_real _ _ (by positivity)]
  refine Finset.sum_congr rfl fun i _ => ?_
  rw [Ideal.div_coe hL.ne', mul_assoc, mul_assoc, mul_comm (v i)]

/-- Minus infinity, as the kernels write it. -/
theorem ofBits_neg_inf : Ideal.ofBits .f32 4286578688#32 = ⊥ := by simp [Ideal.ofBits, Ideal.ieee]

/-- One eighth, as the kernels write it. -/
theorem ofBits_eighth : Ideal.ofBits .f32 1040187392#32 = ((1 / 8 : ℝ) : EReal) := by
  simp [Ideal.ofBits, Ideal.ieee, -EReal.coe_mul]; norm_num

end Cert.Na

end
-- ==== Proof.Na.Spec.lean ====
module

public import proofs.«01_k».proof.Proof.Na.Geometry
public import proofs.«01_k».proof.Proof.Na.Softmax

@[expose] public section

noncomputable section

namespace Cert.Na

open Idealize.ShloMosaic

/-- The position of the cell in grid row `r` and grid column `j`. -/
def cellPos (r : Fin 32) (j : Fin 64) : Fin 2048 := ⟨r.val * 64 + j.val, by omega⟩

/-- The position of neighbour `n` of that cell: grid row `rowStart r + n / 16`, grid column `windowStart j + n % 16`. -/
def keyPos (r : Fin 32) (j : Fin 64) (n : Fin 128) : Fin 2048 :=
  ⟨(rowStart r.val + n.val / 16) * 64 + (windowStart j.val + n.val % 16), by unfold rowStart windowStart; omega⟩

/-- The bias's row for neighbour `n`: the neighbour's grid row less the cell's, plus 7. -/
def biasRow (r : Fin 32) (n : Fin 128) : Fin 15 := ⟨rowStart r.val + n.val / 16 + 7 - r.val, by unfold rowStart; omega⟩

/-- The bias's column for neighbour `n`: the neighbour's grid column less the cell's, plus 15. -/
def biasCol (j : Fin 64) (n : Fin 128) : Fin 31 := ⟨windowStart j.val + n.val % 16 + 15 - j.val, by unfold windowStart; omega⟩

/-- Component `d` of head `h` among the queries' columns. -/
def qLane (h : Fin 16) (d : Fin 64) : Fin 3072 := ⟨h.val * 64 + d.val, by omega⟩
/-- Component `d` of head `h` among the keys' columns. -/
def kLane (h : Fin 16) (d : Fin 64) : Fin 3072 := ⟨1024 + (h.val * 64 + d.val), by omega⟩
/-- Component `d` of head `h` among the values' columns. -/
def vLane (h : Fin 16) (d : Fin 64) : Fin 3072 := ⟨2048 + (h.val * 64 + d.val), by omega⟩

variable (z : Fin 12 → Fin 2048 → Fin 3072 → EReal) (rb : Fin 16 → Fin 15 → Fin 31 → EReal)

/-- The score of a cell's query against its neighbour `n`: the scaled query times the key, plus the bias. -/
def score (b : Fin 12) (r : Fin 32) (h : Fin 16) (j : Fin 64) (n : Fin 128) : EReal :=
  (∑ d, z b (cellPos r j) (qLane h d) * Ideal.ofBits .f32 1040187392#32 * z b (keyPos r j n) (kLane h d))
    + rb h (biasRow r n) (biasCol j n)

/-- Neighbourhood attention at a cell, head and component: the neighbours' values averaged under the softmax of the
    scores. -/
def attention (b : Fin 12) (r : Fin 32) (j : Fin 64) (h : Fin 16) (d : Fin 64) : EReal :=
  ∑ n, Ideal.div (Ideal.exp (score z rb b r h j n - top (score z rb b r h j)))
      (∑ n', Ideal.exp (score z rb b r h j n' - top (score z rb b r h j))) * z b (keyPos r j n) (vLane h d)

end Cert.Na

end
-- ==== Proof.Na.Band.lean ====
module

public import proofs.«01_k».proof.Proof.Na.Row
public import proofs.«01_k».proof.Proof.Na.RowIdeal
public import proofs.«01_k».proof.Proof.Na.Spec

@[expose] public section

set_option maxRecDepth 16384

noncomputable section

namespace Cert.Na

open Cert.KernelIdeal Cert.KernelIdeal.Gen Idealize.ShloMosaic Idealize.ShloMosaic.TcCoe Idealize.SL.Sem

/-- The first head's average is its attention over the 512 keys of the slab. -/
theorem average_first (q : Vec Ideal S1x64x128 .bf16) (k v : Vec Ideal S1x512x128 .bf16) (b : Vec Ideal S1x1x64x512 .f32)
    (x : Fin 64) (l : Fin 128) :
    averageOf (weightsOf (scoresOf firstHead q k b)) v (ix2 x l)
      = attend (fun n : Fin 512 => (∑ d, q (ix3 0 x (headLane 0 d)) * k (ix3 0 n (headLane 0 d)))
          * Ideal.ofBits FTy.f32 1040187392#32 + b (ix4 0 0 x n)) fun n => v (ix3 0 n l) := by
  rw [averageOf_apply]
  unfold attend top
  simp only [weightsOf_apply, scores_first, ofBits_neg_inf]

/-- The second head's average is its attention over the 512 keys of the slab. -/
theorem average_second (q : Vec Ideal S1x64x128 .bf16) (k v : Vec Ideal S1x512x128 .bf16) (b : Vec Ideal S1x1x64x512 .f32)
    (x : Fin 64) (l : Fin 128) :
    averageOf (weightsOf (scoresOf (xori firstHead (constantI S64x128 1 1#1)) q k b)) v (ix2 x l)
      = attend (fun n : Fin 512 => (∑ d, q (ix3 0 x (headLane 1 d)) * k (ix3 0 n (headLane 1 d)))
          * Ideal.ofBits FTy.f32 1040187392#32 + b (ix4 0 0 x n)) fun n => v (ix3 0 n l) := by
  rw [averageOf_apply]
  unfold attend top
  simp only [weightsOf_apply, scores_second, ofBits_neg_inf]

/-- What a row holds at query `x` and lane `l`: the attention of the head to which the lane belongs. -/
theorem row_attend (q : Vec Ideal S1x64x128 .bf16) (k v : Vec Ideal S1x512x128 .bf16)
    (b : Fin 2 → Vec Ideal S1x1x64x512 .f32) (x : Fin 64) (l : Fin 128) (hp : Fin 2) (hl : l.val / 64 = hp.val) :
    rowOf q k v (b 0) (b 1) (ix3 (0 : Fin 1) x l)
      = attend (fun n : Fin 512 => (∑ d, q (ix3 0 x (headLane hp d)) * k (ix3 0 n (headLane hp d)))
          * Ideal.ofBits FTy.f32 1040187392#32 + b hp (ix4 0 0 x n)) fun n => v (ix3 0 n l) := by
  rw [rowOf_apply, firstHead_apply, average_first, average_second]
  match hp, hl with
  | ⟨0, _⟩, hl =>
    rw [if_pos (show l.val < 64 by have : l.val / 64 = 0 := hl; omega)]
    rfl
  | ⟨1, _⟩, hl =>
    rw [if_neg (show ¬ l.val < 64 by have : l.val / 64 = 1 := hl; omega)]
    rfl

/-- Neighbour `n` of a cell in column `j`, as one of the 512 keys of the cell's slab. -/
def slabKey (j : Fin 64) (n : Fin 128) : Fin 512 :=
  ⟨n.val / 16 * 64 + (windowStart j.val + n.val % 16), by unfold windowStart; omega⟩

/-- Distinct neighbours are distinct keys. -/
theorem slabKey_injective (j : Fin 64) : Function.Injective (slabKey j) := fun n n' h => by
  have e : n.val / 16 * 64 + (windowStart j.val + n.val % 16) = n'.val / 16 * 64 + (windowStart j.val + n'.val % 16) :=
    congrArg Fin.val h
  have hj : windowStart j.val ≤ 48 := Nat.min_le_right _ _
  exact Fin.ext (by omega)

/-- A key is a neighbour exactly if its column lies in the window. -/
theorem slabKey_of (j : Fin 64) (n : Fin 512)
    (hw : windowStart j.val ≤ n.val % 64 ∧ n.val % 64 < windowStart j.val + 16) : ∃ k, slabKey j k = n := by
  have hj : windowStart j.val ≤ 48 := Nat.min_le_right _ _
  refine ⟨⟨n.val / 64 * 16 + (n.val % 64 - windowStart j.val), by omega⟩, Fin.ext ?_⟩
  show (n.val / 64 * 16 + (n.val % 64 - windowStart j.val)) / 16 * 64
      + (windowStart j.val + (n.val / 64 * 16 + (n.val % 64 - windowStart j.val)) % 16) = n.val
  omega

/-- Product of two reals, among the extended reals. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- Sum of two reals, among the extended reals. -/
theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

/-- Sum of a finite family of reals, among the extended reals. -/
theorem real_sum {ι : Type} [Fintype ι] (f : ι → EReal) (hf : ∀ i, ∃ r : ℝ, f i = r) : ∃ r : ℝ, ∑ i, f i = r := by
  choose a ha using hf
  exact ⟨∑ i, a i, by rw [← sum_real]; exact Finset.sum_congr rfl fun i _ => ha i⟩

variable (z : Fin 12 → Fin 2048 → Fin 3072 → EReal) (rb : Fin 16 → Fin 15 → Fin 31 → EReal)

/-- Real queries, keys and biases give real scores. -/
theorem score_real (hz : ∀ b s (c : Fin 3072), c.val < 2048 → ∃ r : ℝ, z b s c = r) (hrb : ∀ h a c, ∃ r : ℝ, rb h a c = r)
    (b : Fin 12) (r : Fin 32) (h : Fin 16) (j : Fin 64) (n : Fin 128) : ∃ a : ℝ, score z rb b r h j n = a := by
  unfold score
  refine real_add (real_sum _ fun d => real_mul (real_mul (hz _ _ _ ?_) ⟨_, ofBits_eighth⟩) (hz _ _ _ ?_)) (hrb _ _ _)
  · show h.val * 64 + d.val < 2048; omega
  · show 1024 + (h.val * 64 + d.val) < 2048; omega

/-- What one block holds. Over blocks of the queries, keys and values of a pair of heads and the pair's bias slabs, the
    kernel leaves the neighbourhood attention of those heads. -/
theorem band_attention (hz : ∀ b s (c : Fin 3072), c.val < 2048 → ∃ r : ℝ, z b s c = r)
    (hrb : ∀ h a c, ∃ r : ℝ, rb h a c = r) (b : Fin 12) (p : Fin 8)
    (Q K W : Vec Ideal S1x2048x128 .bf16) (B : Vec Ideal S2x8x64x512 .f32)
    (hQ : ∀ (s : Fin 2048) (l : Fin 128), Q (ix3 0 s l) = z b s (⟨128 * p.val + l.val, by omega⟩ : Fin 3072))
    (hK : ∀ (s : Fin 2048) (l : Fin 128), K (ix3 0 s l) = z b s (⟨1024 + (128 * p.val + l.val), by omega⟩ : Fin 3072))
    (hW : ∀ (s : Fin 2048) (l : Fin 128), W (ix3 0 s l) = z b s (⟨2048 + (128 * p.val + l.val), by omega⟩ : Fin 3072))
    (hB : ∀ (hp : Fin 2) (d : Fin 8) (q : Fin 64) (n : Fin 512), B (ix4 hp d q n)
      = if hw : windowStart q.val ≤ n.val % 64 ∧ n.val % 64 < windowStart q.val + 16 then
          rb (⟨2 * p.val + hp.val, by omega⟩ : Fin 16) (⟨d.val + n.val / 64, by omega⟩ : Fin 15)
            (⟨n.val % 64 + 15 - q.val, by unfold windowStart at hw; omega⟩ : Fin 31)
        else ⊥)
    (s : Fin 2048) (l : Fin 128) :
    bandOf Q K W B (ix3 (0 : Fin 1) s l)
      = attention z rb b (⟨s.val / 64, by omega⟩ : Fin 32) (⟨s.val % 64, by omega⟩ : Fin 64)
          (⟨(128 * p.val + l.val) / 64, by omega⟩ : Fin 16) (⟨(128 * p.val + l.val) % 64, by omega⟩ : Fin 64) := by
  obtain ⟨r, hr⟩ : ∃ r : Fin 32, r = ⟨s.val / 64, by omega⟩ := ⟨_, rfl⟩
  obtain ⟨j, hj⟩ : ∃ j : Fin 64, j = ⟨s.val % 64, by omega⟩ := ⟨_, rfl⟩
  obtain ⟨hp, hhp⟩ : ∃ hp : Fin 2, hp = ⟨l.val / 64, by omega⟩ := ⟨_, rfl⟩
  obtain ⟨h, hh⟩ : ∃ h : Fin 16, h = ⟨(128 * p.val + l.val) / 64, by omega⟩ := ⟨_, rfl⟩
  have er : r.val = s.val / 64 := congrArg Fin.val hr
  have ej : j.val = s.val % 64 := congrArg Fin.val hj
  have ehp : hp.val = l.val / 64 := congrArg Fin.val hhp
  have eh : h.val = (128 * p.val + l.val) / 64 := congrArg Fin.val hh
  rw [← hr, ← hj, ← hh]
  have hband : bandOf Q K W B (ix3 (0 : Fin 1) s l)
      = rowOf (rowAt Q r) (slabAt K r) (slabAt W r) (biasAt B 0 r) (biasAt B 1 r) (ix3 (0 : Fin 1) j l) := by
    rw [hr, hj]; rfl
  rw [hband, row_attend (rowAt Q r) (slabAt K r) (slabAt W r) (fun hp => biasAt B hp r) j l hp ehp.symm]
  have hq : ∀ d, rowAt Q r (ix3 0 j (headLane hp d)) = z b (cellPos r j) (qLane h d) := fun d => by
    refine (hQ _ _).trans (congrArg₂ (z b) (Fin.ext ?_) (Fin.ext ?_))
    · show 64 * r.val + j.val = r.val * 64 + j.val; omega
    · show 128 * p.val + (64 * hp.val + d.val) = h.val * 64 + d.val; omega
  have hk : ∀ n d, slabAt K r (ix3 0 (slabKey j n) (headLane hp d)) = z b (keyPos r j n) (kLane h d) := fun n d => by
    refine (hK _ _).trans (congrArg₂ (z b) (Fin.ext ?_) (Fin.ext ?_))
    · show 64 * slabStart r + (n.val / 16 * 64 + (windowStart j.val + n.val % 16))
        = (rowStart r.val + n.val / 16) * 64 + (windowStart j.val + n.val % 16)
      unfold slabStart rowStart; omega
    · show 1024 + (128 * p.val + (64 * hp.val + d.val)) = 1024 + (h.val * 64 + d.val); omega
  have hv : ∀ n, slabAt W r (ix3 0 (slabKey j n) l)
      = z b (keyPos r j n) (vLane h (⟨(128 * p.val + l.val) % 64, by omega⟩ : Fin 64)) := fun n => by
    refine (hW _ _).trans (congrArg₂ (z b) (Fin.ext ?_) (Fin.ext ?_))
    · show 64 * slabStart r + (n.val / 16 * 64 + (windowStart j.val + n.val % 16))
        = (rowStart r.val + n.val / 16) * 64 + (windowStart j.val + n.val % 16)
      unfold slabStart rowStart; omega
    · show 2048 + (128 * p.val + l.val) = 2048 + (h.val * 64 + (128 * p.val + l.val) % 64); omega
  have hwin : ∀ n : Fin 128, windowStart j.val ≤ (slabKey j n).val % 64
      ∧ (slabKey j n).val % 64 < windowStart j.val + 16 := fun n => by
    have hj48 : windowStart j.val ≤ 48 := Nat.min_le_right _ _
    have e : (slabKey j n).val = n.val / 16 * 64 + (windowStart j.val + n.val % 16) := rfl
    omega
  have hb : ∀ n, biasAt B hp r (ix4 0 0 j (slabKey j n)) = rb h (biasRow r n) (biasCol j n) := fun n => by
    refine (hB hp (⟨slabBias r, slabBias_lt r⟩ : Fin 8) j (slabKey j n)).trans ?_
    have hj48 : windowStart j.val ≤ 48 := Nat.min_le_right _ _
    have e : (slabKey j n).val = n.val / 16 * 64 + (windowStart j.val + n.val % 16) := rfl
    rw [dif_pos (hwin n)]
    have h1 : (⟨2 * p.val + hp.val, by omega⟩ : Fin 16) = h :=
      Fin.ext (by show 2 * p.val + hp.val = h.val; omega)
    rw [h1]
    refine congrArg₂ (rb h) (Fin.ext ?_) (Fin.ext ?_)
    · show slabBias r + (slabKey j n).val / 64 = rowStart r.val + n.val / 16 + 7 - r.val
      unfold slabBias slabStart rowStart
      omega
    · show (slabKey j n).val % 64 + 15 - j.val = windowStart j.val + n.val % 16 + 15 - j.val
      omega
  rw [attend_embed (slabKey j) (slabKey_injective j) _ _ fun n hn => by
    have hw : ¬ (windowStart j.val ≤ n.val % 64 ∧ n.val % 64 < windowStart j.val + 16) := fun hw => by
      obtain ⟨k, hk⟩ := slabKey_of j n hw
      exact hn k hk
    have e : biasAt B hp r (ix4 0 0 j n) = ⊥ :=
      (hB hp (⟨slabBias r, slabBias_lt r⟩ : Fin 8) j n).trans (dif_neg hw)
    show _ + biasAt B hp r (ix4 0 0 j n) = ⊥
    rw [e, EReal.add_bot]]
  have hs : (fun n : Fin 128 => (∑ d, rowAt Q r (ix3 0 j (headLane hp d)) * slabAt K r (ix3 0 (slabKey j n) (headLane hp d)))
      * Ideal.ofBits FTy.f32 1040187392#32 + biasAt B hp r (ix4 0 0 j (slabKey j n))) = score z rb b r h j := by
    funext n
    unfold score
    rw [hb n, ofBits_eighth, sum_mul_real _ _ (by norm_num)]
    refine congrArg₂ (· + ·) (Finset.sum_congr rfl fun d _ => ?_) rfl
    rw [hq, hk, mul_right_comm]
  have hv' : (fun n => slabAt W r (ix3 0 (slabKey j n) l))
      = fun n => z b (keyPos r j n) (vLane h (⟨(128 * p.val + l.val) % 64, by omega⟩ : Fin 64)) := funext hv
  refine (congrArg₂ attend hs hv').trans ?_
  rw [attend_eq _ _ (score_real z rb hz hrb b r h j)]
  rfl

end Cert.Na

end
-- ==== Proof.Na.Toep.lean ====
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Na

open Cert.KernelIdeal Cert.KernelIdeal.Gen Idealize.ShloMosaic Idealize.ShloMosaic.TcCoe Idealize.SL.Sem
open Idealize.ShloMosaic.StableHlo (after)

variable {F : FTy → Type} [FloatOps F]

/-- Eight arrays stacked along axis 1: slice `d` of the stack is array `d`. -/
theorem stack8 {α : Type} (x0 x1 x2 x3 x4 x5 x6 x7 : S16x1x8x64x64.Idx → α) (hc : Shape.Concatenates [S16x1x8x64x64,
    S16x1x8x64x64, S16x1x8x64x64, S16x1x8x64x64, S16x1x8x64x64, S16x1x8x64x64, S16x1x8x64x64, S16x1x8x64x64]
    S16x8x8x64x64 1) (h : Fin 16) (d r : Fin 8) (q c : Fin 64) :
    concatenate S16x8x8x64x64 1 [⟨S16x1x8x64x64, x0⟩, ⟨S16x1x8x64x64, x1⟩, ⟨S16x1x8x64x64, x2⟩, ⟨S16x1x8x64x64, x3⟩,
      ⟨S16x1x8x64x64, x4⟩, ⟨S16x1x8x64x64, x5⟩, ⟨S16x1x8x64x64, x6⟩, ⟨S16x1x8x64x64, x7⟩] hc (ix5 h d r q c) = ![x0, x1,
      x2, x3, x4, x5, x6, x7] d (ix5 h 0 r q c) :=
  concatenate_ofFn_unit_apply 1 ![x0, x1, x2, x3, x4, x5, x6, x7] hc rfl rfl (ix5 h d r q c) d rfl (ix5 h 0 r q c) fun b hb => by
    fin_cases b
    · rfl
    · exact absurd rfl hb
    · rfl
    · rfl
    · rfl

/-- Sixteen arrays stacked along axis 2: slice `j` of the stack is array `j`. -/
theorem stack16 {α : Type} (x0 x1 x2 x3 x4 x5 x6 x7 x8 x9 x10 x11 x12 x13 x14 x15 : S16x15x1x64.Idx → α) (hc :
    Shape.Concatenates [S16x15x1x64, S16x15x1x64, S16x15x1x64, S16x15x1x64, S16x15x1x64, S16x15x1x64, S16x15x1x64,
    S16x15x1x64, S16x15x1x64, S16x15x1x64, S16x15x1x64, S16x15x1x64, S16x15x1x64, S16x15x1x64, S16x15x1x64, S16x15x1x64]
    S16x15x16x64 2) (h : Fin 16) (d : Fin 15) (j : Fin 16) (c : Fin 64) :
    concatenate S16x15x16x64 2 [⟨S16x15x1x64, x0⟩, ⟨S16x15x1x64, x1⟩, ⟨S16x15x1x64, x2⟩, ⟨S16x15x1x64, x3⟩, ⟨S16x15x1x64,
      x4⟩, ⟨S16x15x1x64, x5⟩, ⟨S16x15x1x64, x6⟩, ⟨S16x15x1x64, x7⟩, ⟨S16x15x1x64, x8⟩, ⟨S16x15x1x64, x9⟩, ⟨S16x15x1x64,
      x10⟩, ⟨S16x15x1x64, x11⟩, ⟨S16x15x1x64, x12⟩, ⟨S16x15x1x64, x13⟩, ⟨S16x15x1x64, x14⟩, ⟨S16x15x1x64, x15⟩] hc (ix4
      h d j c) = ![x0, x1, x2, x3, x4, x5, x6, x7, x8, x9, x10, x11, x12, x13, x14, x15] j (ix4 h d 0 c) :=
  concatenate_ofFn_unit_apply 2 ![x0, x1, x2, x3, x4, x5, x6, x7, x8, x9, x10, x11, x12, x13, x14, x15] hc rfl rfl (ix4 h d j c) j rfl
    (ix4 h d 0 c) fun b hb => by
    fin_cases b
    · rfl
    · rfl
    · exact absurd rfl hb
    · rfl

/-- Four quarters one behind the other along axis 2: slice `16 a + b` of the whole is slice `b` of quarter `a`. -/
theorem quarters4 {α : Type} (x0 x1 x2 x3 : S16x15x16x64.Idx → α)
    (hc : Shape.Concatenates [S16x15x16x64, S16x15x16x64, S16x15x16x64, S16x15x16x64] S16x15x64x64 2)
    (h : Fin 16) (d : Fin 15) (a : Fin 4) (b : Fin 16) (c : Fin 64) :
    concatenate S16x15x64x64 2 [⟨S16x15x16x64, x0⟩, ⟨S16x15x16x64, x1⟩, ⟨S16x15x16x64, x2⟩, ⟨S16x15x16x64, x3⟩] hc
      (ix4 h d (⟨16 * a.val + b.val, by omega⟩ : Fin 64) c) = ![x0, x1, x2, x3] a (ix4 h d b c) := by
  refine concatenate_ofFn_apply (t := S16x15x64x64) 2 ![x0, x1, x2, x3] hc rfl 16 rfl
    (ix4 h d (⟨16 * a.val + b.val, by omega⟩ : Fin 64) c) a ?_ (ix4 h d b c) ?_ fun e he => ?_
  · show (16 * a.val + b.val) / 16 = a.val
    omega
  · show b.val = (16 * a.val + b.val) % 16
    omega
  · fin_cases e
    · rfl
    · rfl
    · exact absurd rfl he
    · rfl

/-- The table of shifted rows: row `j` is the padded row from column `78 - j` on. -/
theorem toep_at (W : Valuation τ sig (Elt F)) (h : Fin 16) (d : Fin 15) (a : Fin 4) (b : Fin 16) (kc : Fin 64) :
    (after hostOps0_2 W (Proc.devRef .tc main_v134) : Vec F S16x15x64x64 .f32)
        (ix4 h d (⟨16 * a.val + b.val, by omega⟩ : Fin 64) kc)
      = (W (Proc.devRef .tc main_v1) : Vec F S16x15x157 .f32)
          (ix3 h d (⟨78 - (16 * a.val + b.val) + kc.val, by omega⟩ : Fin 157)) := by
  after_reads_simp
  simp only [Matrix.cons_val]
  rw [quarters4]
  fin_cases a <;> simp only [Fin.zero_eta, Fin.mk_one, Fin.reduceFinMk, Matrix.cons_val] <;> after_reads_simp <;>
    simp only [Matrix.cons_val] <;> rw [stack16] <;> fin_cases b <;>
    simp only [Fin.zero_eta, Fin.mk_one, Fin.reduceFinMk, Matrix.cons_val] <;> after_reads_at

end Cert.Na

end
-- ==== Proof.Na.Bias.lean ====
module

public import proofs.«01_k».proof.Proof.Na.Toep
public import proofs.«01_k».proof.Proof.Na.Geometry
public import Idealize.ShloMosaic.Lib.StableHlo.ReadAt
public import Idealize.ShloMosaic.Lib.Pointwise

@[expose] public section

set_option maxRecDepth 16384

noncomputable section

namespace Cert.Na

open Cert.KernelIdeal Cert.KernelIdeal.Gen Idealize.ShloMosaic Idealize.ShloMosaic.TcCoe Idealize.SL.Sem
open Idealize.ShloMosaic.StableHlo (after)

variable {F : FTy → Type} [FloatOps F]

/-- The last stretch of the host's operations cuts eight slabs of eight rows out of the masked table and lays each slab's
    rows side by side. -/
theorem slabs_at (W : Valuation τ sig (Elt F)) (h : Fin 16) (d : Fin 8) (q : Fin 64) (n : Fin 512) :
    (after hostOps0_4 W (Proc.devRef .tc main_v154) : Vec F S16x8x64x512 .f32) (ix4 h d q n)
      = (W (Proc.devRef .tc main_v135) : Vec F S16x15x64x64 .f32)
          (ix4 h (⟨d.val + n.val / 64, by omega⟩ : Fin 15) q (⟨n.val % 64, by omega⟩ : Fin 64)) := by
  after_reads_simp
  simp only [Matrix.cons_val]
  generalize hX : concatenate S16x8x8x64x64 1 _ _ = X
  pointwise
  rw [← hX, stack8]
  clear hX
  fin_cases d <;> simp only [Fin.zero_eta, Fin.mk_one, Fin.reduceFinMk, Matrix.cons_val] <;> after_reads_at

/-- The masked table: an entry of the shifted rows where the key column lies in the query column's window, the constant
    elsewhere. -/
theorem masked_at (W : Valuation τ sig (Elt F)) (h : Fin 16) (d : Fin 15) (q kc : Fin 64) :
    (after hostOps0_3 W (Proc.devRef .tc main_v135) : Vec F S16x15x64x64 .f32) (ix4 h d q kc)
      = Scalar.select ((W (Proc.devRef .tc main_v0) : IVec S1x1x64x64 1) (ix4 0 0 q kc))
        ((W (Proc.devRef .tc main_v134) : Vec F S16x15x64x64 .f32) (ix4 h d q kc))
        ((W (Proc.devRef .tc main_cst) : Vec F S_ .f32) ix0) := by
  after_reads_at
  rfl

/-- The padded table: the bias's 31 columns start at column 63. -/
theorem padded_at (W : Valuation τ sig (Elt F)) (h : Fin 16) (d : Fin 15) (n : Fin 157) (h63 : 63 ≤ n.val)
    (h31 : n.val - 63 < 31) :
    (after hostOps0_1 W (Proc.devRef .tc main_v1) : Vec F S16x15x157 .f32) (ix3 h d n)
      = (W (Proc.devRef .tc main_arg1) : Vec F S16x15x31 .f32) (ix3 h d (⟨n.val - 63, h31⟩ : Fin 31)) := by
  after_reads_at
  rw [dif_pos ⟨h63, h31⟩]

/-- The mask's bit: whether the key column lies in the query column's window. -/
theorem mask_bit : ∀ q kc : Fin 64, lit0 (S64x64.rowMajor (ix2 q kc))
    = if windowStart q.val ≤ kc.val ∧ kc.val < windowStart q.val + 16 then 1#1 else 0#1 := by
  decide +kernel

/-- The mask after the first stretch. -/
theorem mask_at (W : Valuation τ sig (Elt F)) (q kc : Fin 64) :
    (after hostOps0 W (Proc.devRef .tc main_v0) : IVec S1x1x64x64 1) (ix4 0 0 q kc)
      = if windowStart q.val ≤ kc.val ∧ kc.val < windowStart q.val + 16 then 1#1 else 0#1 := by
  rw [← mask_bit]
  after_reads_at

/-- The second stretch leaves the mask. -/
theorem mask_kept1 (W : Valuation τ sig (Elt F)) :
    after hostOps0_1 W (Proc.devRef .tc main_v0) = W (Proc.devRef .tc main_v0) := by
  after_reads_simp

/-- The third stretch leaves the mask. -/
theorem mask_kept2 (W : Valuation τ sig (Elt F)) :
    after hostOps0_2 W (Proc.devRef .tc main_v0) = W (Proc.devRef .tc main_v0) := by
  after_reads_simp

/-- The third stretch ends with the constant that stands outside the windows. -/
theorem fill_at (W : Valuation τ sig (Elt F)) :
    (after hostOps0_2 W (Proc.devRef .tc main_cst) : Vec F S_ .f32) ix0 = FloatOps.ofBits .f32 0xFF800000#32 := by
  after_reads_at

/-- The first stretch leaves the bias. -/
theorem arg1_kept (W : Valuation τ sig (Elt F)) :
    after hostOps0 W (Proc.devRef .tc main_arg1) = W (Proc.devRef .tc main_arg1) := by
  after_reads_simp

/-- Two stretches of operations, one after the other. -/
theorem after_both (l₁ l₂ : List (HloOp τ sig (Elt F))) (W : Valuation τ sig (Elt F)) :
    after (l₁ ++ l₂) W = after l₂ (after l₁ W) := by
  induction l₁ generalizing W with
  | nil => rfl
  | cons op l ih => exact ih _

/-- The host's bias table, entry by entry. Slab `d` at query column `q` and key `n` (row `n / 64` of the slab, column
    `n % 64`) is the bias of the head at row `d + n / 64` and column `n % 64 - q + 15` if the key column lies in the query
    column's window, and the constant (minus infinity) otherwise. -/
theorem table_at (W : Valuation τ sig (Elt F)) (h : Fin 16) (d : Fin 8) (q : Fin 64) (n : Fin 512) :
    (after (List.flatten [hostOps0, hostOps0_1, hostOps0_2, hostOps0_3, hostOps0_4]) W (Proc.devRef .tc main_v154) :
        Vec F S16x8x64x512 .f32) (ix4 h d q n)
      = if hw : windowStart q.val ≤ n.val % 64 ∧ n.val % 64 < windowStart q.val + 16 then
          (W (Proc.devRef .tc main_arg1) : Vec F S16x15x31 .f32)
            (ix3 h (⟨d.val + n.val / 64, by omega⟩ : Fin 15)
              (⟨n.val % 64 + 15 - q.val, by unfold windowStart at hw; omega⟩ : Fin 31))
        else FloatOps.ofBits .f32 0xFF800000#32 := by
  have e : after (List.flatten [hostOps0, hostOps0_1, hostOps0_2, hostOps0_3, hostOps0_4]) W
      = after hostOps0_4 (after hostOps0_3 (after hostOps0_2 (after hostOps0_1 (after hostOps0 W)))) := by
    simp only [List.flatten_cons, List.flatten_nil, List.append_nil, after_both]
  rw [e, slabs_at, masked_at, mask_kept2, mask_kept1, mask_at, fill_at]
  by_cases hw : windowStart q.val ≤ n.val % 64 ∧ n.val % 64 < windowStart q.val + 16
  · have hq : q = (⟨16 * (⟨q.val / 16, by omega⟩ : Fin 4).val + (⟨q.val % 16, by omega⟩ : Fin 16).val, by
        show 16 * (q.val / 16) + q.val % 16 < 64; omega⟩ : Fin 64) := Fin.ext (by
      show q.val = 16 * (q.val / 16) + q.val % 16; omega)
    rw [if_pos hw, dif_pos hw]
    refine Eq.trans (b := (after hostOps0_2 (after hostOps0_1 (after hostOps0 W)) (Proc.devRef .tc main_v134) :
      Vec F S16x15x64x64 .f32) (ix4 h (⟨d.val + n.val / 64, by omega⟩ : Fin 15) q (⟨n.val % 64, by omega⟩ : Fin 64))) rfl ?_
    conv_lhs => rw [hq]
    rw [toep_at]
    have hv : 78 - (16 * (q.val / 16) + q.val % 16) + n.val % 64 = n.val % 64 + 15 - q.val + 63 := by
      unfold windowStart at hw; omega
    rw [padded_at _ _ _ _ (by show 63 ≤ 78 - (16 * (q.val / 16) + q.val % 16) + n.val % 64; omega)
      (by show 78 - (16 * (q.val / 16) + q.val % 16) + n.val % 64 - 63 < 31; unfold windowStart at hw; omega), arg1_kept]
    refine congrArg (W (Proc.devRef .tc main_arg1) : Vec F S16x15x31 .f32) (congrArg (ix3 h _) (Fin.ext ?_))
    show 78 - (16 * (q.val / 16) + q.val % 16) + n.val % 64 - 63 = n.val % 64 + 15 - q.val
    omega
  · rw [if_neg hw, dif_neg hw]
    rfl

end Cert.Na

end
-- ==== Proof.Na.Whole.lean ====
module

public import proofs.«01_k».proof.Proof.Na.Band
public import proofs.«01_k».proof.Proof.Na.Bias
public import proofs.«01_k».proof.Proof.Gen.KernelIdeal.Value
public import Idealize.ShloMosaic.Lib.Pipeline.ValueKit

@[expose] public section

set_option maxRecDepth 16384

noncomputable section

namespace Cert.Na

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The entries of the array of queries, keys and values. -/
def zOf (x0 : Vec Ideal S12x2048x3072 .bf16) (b : Fin 12) (s : Fin 2048) (c : Fin 3072) : EReal := x0 (ix3 b s c)

/-- The entries of the bias. -/
def rbOf (x1 : Vec Ideal S16x15x31 .f32) (h : Fin 16) (a : Fin 15) (c : Fin 31) : EReal := x1 (ix3 h a c)

/-- The whole result: neighbourhood attention at each position and lane. -/
def resultOf (x0 : Vec Ideal S12x2048x3072 .bf16) (x1 : Vec Ideal S16x15x31 .f32) : Vec Ideal S12x2048x1024 .bf16 := fun i =>
  have h1 : (i 1).val < 2048 := (i 1).isLt
  have h2 : (i 2).val < 1024 := (i 2).isLt
  attention (zOf x0) (rbOf x1) (⟨(i 0).val, (i 0).isLt⟩ : Fin 12) (⟨(i 1).val / 64, by omega⟩ : Fin 32)
    (⟨(i 1).val % 64, by omega⟩ : Fin 64) (⟨(i 2).val / 64, by omega⟩ : Fin 16) (⟨(i 2).val % 64, by omega⟩ : Fin 64)

/-- The queries' block at a grid point: batch `t / 8`, lane block `t % 8`. -/
theorem index0 : ∀ t : Fin cfg0.N, win0_0.index t = ![t.val / 8, 0, t.val % 8] :=
  (by decide +kernel : ∀ t : Fin grid0.N, _)
/-- The keys' block: eight lane blocks further. -/
theorem index1 : ∀ t : Fin cfg0.N, win0_1.index t = ![t.val / 8, 0, 8 + t.val % 8] :=
  (by decide +kernel : ∀ t : Fin grid0.N, _)
/-- The values' block: sixteen lane blocks further. -/
theorem index2 : ∀ t : Fin cfg0.N, win0_2.index t = ![t.val / 8, 0, 16 + t.val % 8] :=
  (by decide +kernel : ∀ t : Fin grid0.N, _)
/-- The bias table's block: the pair of heads `t % 8`. -/
theorem index3 : ∀ t : Fin cfg0.N, win0_3.index t = ![t.val % 8, 0, 0, 0] :=
  (by decide +kernel : ∀ t : Fin grid0.N, _)
/-- The result's block: batch `t / 8`, lane block `t % 8`. -/
theorem index4 : ∀ t : Fin cfg0.N, win0_4.index t = ![t.val / 8, 0, t.val % 8] :=
  (by decide +kernel : ∀ t : Fin grid0.N, _)

/-- The grid has 96 points. -/
theorem points_eq : cfg0.N = 96 := by decide +kernel

/-- The batch of a grid point. -/
def batchOf (t : Fin cfg0.N) : Fin 12 := ⟨t.val / 8, by have h := Nat.lt_of_lt_of_eq t.isLt points_eq; omega⟩

/-- The pair of heads of a grid point. -/
def pairOf (t : Fin cfg0.N) : Fin 8 := ⟨t.val % 8, by omega⟩

/-- The block of queries at a grid point. -/
theorem queries_block (c : Dev nD) (t : Fin cfg0.N) (s : Fin 2048) (l : Fin 128) :
    (iblk m c 0 t : Vec Ideal S1x2048x128 .bf16) (ix3 0 s l)
      = zOf (m ((c : Thread nD τ).loc main_arg0)) (batchOf t) s (⟨128 * (pairOf t).val + l.val, by omega⟩ : Fin 3072) := by
  refine Eq.trans (b := V m c main_arg0 (((cfg0.win 0).blk t).view.emb (ix3 0 s l))) rfl ?_
  rw [V_main_arg0]
  refine congrArg (m ((c : Thread nD τ).loc main_arg0)) (funext fun a => Fin.ext ?_)
  have e := index0 t
  match a with
  | ⟨0, _⟩ => show win0_0.index t 0 * 1 + 1 * 0 = t.val / 8; rw [e]; show t.val / 8 * 1 + 1 * 0 = _; omega
  | ⟨1, _⟩ => show win0_0.index t 1 * 2048 + 1 * s.val = s.val; rw [e]; show 0 * 2048 + 1 * s.val = _; omega
  | ⟨2, _⟩ =>
    show win0_0.index t 2 * 128 + 1 * l.val = 128 * (t.val % 8) + l.val
    rw [e]; show t.val % 8 * 128 + 1 * l.val = _; omega

/-- The block of keys at a grid point. -/
theorem keys_block (c : Dev nD) (t : Fin cfg0.N) (s : Fin 2048) (l : Fin 128) :
    (iblk m c 1 t : Vec Ideal S1x2048x128 .bf16) (ix3 0 s l)
      = zOf (m ((c : Thread nD τ).loc main_arg0)) (batchOf t) s
          (⟨1024 + (128 * (pairOf t).val + l.val), by omega⟩ : Fin 3072) := by
  refine Eq.trans (b := V m c main_arg0 (((cfg0.win 1).blk t).view.emb (ix3 0 s l))) rfl ?_
  rw [V_main_arg0]
  refine congrArg (m ((c : Thread nD τ).loc main_arg0)) (funext fun a => Fin.ext ?_)
  have e := index1 t
  match a with
  | ⟨0, _⟩ => show win0_1.index t 0 * 1 + 1 * 0 = t.val / 8; rw [e]; show t.val / 8 * 1 + 1 * 0 = _; omega
  | ⟨1, _⟩ => show win0_1.index t 1 * 2048 + 1 * s.val = s.val; rw [e]; show 0 * 2048 + 1 * s.val = _; omega
  | ⟨2, _⟩ =>
    show win0_1.index t 2 * 128 + 1 * l.val = 1024 + (128 * (t.val % 8) + l.val)
    rw [e]; show (8 + t.val % 8) * 128 + 1 * l.val = _; omega

/-- The block of values at a grid point. -/
theorem values_block (c : Dev nD) (t : Fin cfg0.N) (s : Fin 2048) (l : Fin 128) :
    (iblk m c 2 t : Vec Ideal S1x2048x128 .bf16) (ix3 0 s l)
      = zOf (m ((c : Thread nD τ).loc main_arg0)) (batchOf t) s
          (⟨2048 + (128 * (pairOf t).val + l.val), by omega⟩ : Fin 3072) := by
  refine Eq.trans (b := V m c main_arg0 (((cfg0.win 2).blk t).view.emb (ix3 0 s l))) rfl ?_
  rw [V_main_arg0]
  refine congrArg (m ((c : Thread nD τ).loc main_arg0)) (funext fun a => Fin.ext ?_)
  have e := index2 t
  match a with
  | ⟨0, _⟩ => show win0_2.index t 0 * 1 + 1 * 0 = t.val / 8; rw [e]; show t.val / 8 * 1 + 1 * 0 = _; omega
  | ⟨1, _⟩ => show win0_2.index t 1 * 2048 + 1 * s.val = s.val; rw [e]; show 0 * 2048 + 1 * s.val = _; omega
  | ⟨2, _⟩ =>
    show win0_2.index t 2 * 128 + 1 * l.val = 2048 + (128 * (t.val % 8) + l.val)
    rw [e]; show (16 + t.val % 8) * 128 + 1 * l.val = _; omega

/-- The block of the bias table at a grid point. -/
theorem bias_block (c : Dev nD) (t : Fin cfg0.N) (hp : Fin 2) (d : Fin 8) (q : Fin 64) (n : Fin 512) :
    (iblk m c 3 t : Vec Ideal S2x8x64x512 .f32) (ix4 hp d q n)
      = if hw : windowStart q.val ≤ n.val % 64 ∧ n.val % 64 < windowStart q.val + 16 then
          rbOf (m ((c : Thread nD τ).loc main_arg1)) (⟨2 * (pairOf t).val + hp.val, by omega⟩ : Fin 16)
            (⟨d.val + n.val / 64, by omega⟩ : Fin 15)
            (⟨n.val % 64 + 15 - q.val, by unfold windowStart at hw; omega⟩ : Fin 31)
        else ⊥ := by
  have e : ((cfg0.win 3).blk t).view.emb (ix4 hp d q n)
      = (ix4 (⟨2 * (pairOf t).val + hp.val, by omega⟩ : Fin 16) d q n : S16x8x64x512.Idx) := funext fun a => Fin.ext (by
    have e := index3 t
    match a with
    | ⟨0, _⟩ =>
      show win0_3.index t 0 * 2 + 1 * hp.val = 2 * (t.val % 8) + hp.val
      rw [e]; show t.val % 8 * 2 + 1 * hp.val = _; omega
    | ⟨1, _⟩ => show win0_3.index t 1 * 8 + 1 * d.val = d.val; rw [e]; show 0 * 8 + 1 * d.val = _; omega
    | ⟨2, _⟩ => show win0_3.index t 2 * 64 + 1 * q.val = q.val; rw [e]; show 0 * 64 + 1 * q.val = _; omega
    | ⟨3, _⟩ => show win0_3.index t 3 * 512 + 1 * n.val = n.val; rw [e]; show 0 * 512 + 1 * n.val = _; omega)
  refine Eq.trans (b := V m c main_v154 (((cfg0.win 3).blk t).view.emb (ix4 hp d q n))) rfl ?_
  rw [e]
  refine (table_at (fun b => m (c, b)) _ d q n).trans ?_
  split
  · rfl
  · exact ofBits_neg_inf

/-- The kernel's result array, from real queries, keys and biases: neighbourhood attention. -/
theorem array_eq (hz : ∀ (c : Dev nD) (b : Fin 12) (s : Fin 2048) (l : Fin 3072), l.val < 2048 →
      ∃ r : ℝ, zOf (m ((c : Thread nD τ).loc main_arg0)) b s l = r)
    (hrb : ∀ (c : Dev nD) (h : Fin 16) (a : Fin 15) (l : Fin 31), ∃ r : ℝ, rbOf (m ((c : Thread nD τ).loc main_arg1)) h a l = r)
    (c : Dev nD) : (dats m 0 c).arrAt 4 cfg0.N
      = resultOf (m ((c : Thread nD τ).loc main_arg0)) (m ((c : Thread nD τ).loc main_arg1)) := by
  refine (dats m 0 c).arrAt_eq_of_covers 4 _ (by decide +kernel) fun t hf y => ?_
  refine (congrFun (flushed4_A m c t) y).trans ?_
  rw [out_band]
  obtain ⟨a, s, l, rfl⟩ : ∃ (a : Fin 1) (s : Fin 2048) (l : Fin 128), y = (ix3 a s l : S1x2048x128.Idx) :=
    ⟨y 0, y 1, y 2, eq_ix3 _⟩
  obtain rfl : a = 0 := Fin.ext (by omega)
  refine (band_attention _ _ (hz c) (hrb c) (batchOf t) (pairOf t) _ _ _ _ (queries_block m c t) (keys_block m c t)
    (values_block m c t) (bias_block m c t) s l).trans ?_
  have e : ((cfg0.win 4).blk t).view.emb (ix3 0 s l)
      = (ix3 (batchOf t) s (⟨128 * (pairOf t).val + l.val, by omega⟩ : Fin 1024) : S12x2048x1024.Idx) := funext fun a => Fin.ext (by
    have e := index4 t
    match a with
    | ⟨0, _⟩ => show win0_4.index t 0 * 1 + 1 * 0 = t.val / 8; rw [e]; show t.val / 8 * 1 + 1 * 0 = _; omega
    | ⟨1, _⟩ => show win0_4.index t 1 * 2048 + 1 * s.val = s.val; rw [e]; show 0 * 2048 + 1 * s.val = _; omega
    | ⟨2, _⟩ =>
      show win0_4.index t 2 * 128 + 1 * l.val = 128 * (t.val % 8) + l.val
      rw [e]; show t.val % 8 * 128 + 1 * l.val = _; omega)
  rw [e]
  rfl

end Cert.Na

end
-- ==== Proof.Na.Finite.lean ====
module

public import proofs.«01_k».proof.Defs
public import proofs.«01_k».proof.Proof.Na.Whole
public import proofs.«01_k».proof.Proof.Gen.ReferenceIdeal

@[expose] public section

set_option maxRecDepth 16384

noncomputable section

namespace Cert.Na

open Idealize.ShloMosaic Idealize.ShloMosaic.TcCoe Idealize.SL.Sem

/-- The side conditions of the precondition's operations. -/
theorem scores_facts : Cert.Pre_scores_finite.Facts where
  slices_S12x2048x3072_S12x2048x2048_0_0_0 := by decide +kernel
  bitsLt_bf16_f32 := by decide +kernel
  bcast_S_S12x2048x2048 := by decide +kernel
  bcast_S_S16x15x31 := by decide +kernel

/-- An extended real whose absolute value is below plus infinity is a real. -/
theorem real_of_lt {x : EReal} (h : Ideal.cmp .olt (max x (-x)) (Ideal.ofBits .f32 0x7F800000#32) = 1#1) :
    ∃ r : ℝ, x = r := by
  have e : Ideal.ofBits .f32 0x7F800000#32 = ⊤ := by simp [Ideal.ofBits, Ideal.ieee]
  rw [e] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  have h1 : x ≠ ⊤ := fun hx => by rw [hx] at hlt; exact absurd hlt (by simp)
  have h2 : x ≠ ⊥ := fun hx => by rw [hx] at hlt; exact absurd hlt (by simp)
  exact ⟨x.toReal, (EReal.coe_toReal h1 h2).symm⟩

variable [Cert.Pre_scores_finite.Facts] (x0 : Vec Ideal Cert.KernelIdeal.S12x2048x3072 .bf16) (x1 : Vec Ideal Cert.KernelIdeal.S16x15x31 .f32)

/-- The precondition makes the queries and the keys real. -/
theorem entries_real (h : (Cert.Pre_scores_finite.fn (F := Ideal) x0 x1).1 = fun _ => 1#1)
    (b : Fin 12) (s : Fin 2048) (l : Fin 3072) (hl : l.val < 2048) : ∃ r : ℝ, zOf x0 b s l = r := by
  have h' := congrFun h (ix3 b s (⟨l.val, hl⟩ : Fin 2048))
  unfold Cert.Pre_scores_finite.fn at h'
  refine real_of_lt (Eq.trans ?_ h')
  pointwise
  rfl

/-- The precondition makes the biases real. -/
theorem biases_real (h : (Cert.Pre_scores_finite.fn (F := Ideal) x0 x1).2 = fun _ => 1#1)
    (k : Fin 16) (a : Fin 15) (l : Fin 31) : ∃ r : ℝ, rbOf x1 k a l = r := by
  have h' := congrFun h (ix3 k a l)
  unfold Cert.Pre_scores_finite.fn at h'
  refine real_of_lt (Eq.trans ?_ h')
  pointwise
  rfl

end Cert.Na

end
-- ==== Proof.Na.Gather.lean ====
module

public import proofs.«01_k».proof.Proof.Gen.ReferenceIdeal.Read
public import Idealize.ShloMosaic.Lib.Pointwise

@[expose] public section

set_option maxRecDepth 16384

noncomputable section

namespace Cert.Na

open Cert.ReferenceIdeal Cert.ReferenceIdeal.Gen Idealize.ShloMosaic Idealize.ShloMosaic.TcCoe Idealize.SL.Sem

/-- A gather of grid rows: row `a` of slab `r` is the row that the index names. -/
theorem gather_rows {α : Type} (x : S12x32x64x16x64.Idx → α) (idx : IVec S32x8x1 32) (b : Fin 12) (r : Fin 32) (a : Fin 8) (j : Fin 64) (h : Fin 16) (d : Fin 64)
    (w : Nat) (hlt : w ≤ 31) (hw : (idx (ix3 r a (0 : Fin 1))).toInt.toNat = w) :
    Host.gather gather_S12x32x64x16x64_S32x8x1_S12x32x8x64x16x64_0345_1_n_n_1_2_121641664 x idx
      (ix6 b r a j h d) = x (ix5 b (⟨w, by omega⟩ : Fin 32) j h d) := by
  unfold Host.gather
  congr 1
  funext e
  refine Fin.ext ?_
  match e with
  | ⟨0, _⟩ =>
    show gather_S12x32x64x16x64_S32x8x1_S12x32x8x64x16x64_0345_1_n_n_1_2_121641664.start _ idx 0 + gather_S12x32x64x16x64_S32x8x1_S12x32x8x64x16x64_0345_1_n_n_1_2_121641664.batchCoord _ 0 + gather_S12x32x64x16x64_S32x8x1_S12x32x8x64x16x64_0345_1_n_n_1_2_121641664.offCoord _ 0 = _
    rw [GatherDims.batchCoord_eq_zero _ _ _ List.not_mem_nil]
    unfold GatherDims.start GatherDims.offCoord
    rw [dif_neg (show (0 : Fin 5) ∉ gather_S12x32x64x16x64_S32x8x1_S12x32x8x64x16x64_0345_1_n_n_1_2_121641664.startIndexMap from
        (show (0 : Fin 5) ∉ ([1] : List (Fin 5)) by decide)),
      dif_pos (show (0 : Fin 5) ∈ gather_S12x32x64x16x64_S32x8x1_S12x32x8x64x16x64_0345_1_n_n_1_2_121641664.sKept from
        (GatherDims.mem_sKept _ _).2 ⟨(show (0 : Fin 5) ∉ ([1] : List (Fin 5)) by decide), List.not_mem_nil⟩),
      Nat.zero_add]
    rfl
  | ⟨1, _⟩ =>
    show gather_S12x32x64x16x64_S32x8x1_S12x32x8x64x16x64_0345_1_n_n_1_2_121641664.start _ idx 1 + gather_S12x32x64x16x64_S32x8x1_S12x32x8x64x16x64_0345_1_n_n_1_2_121641664.batchCoord _ 1 + gather_S12x32x64x16x64_S32x8x1_S12x32x8x64x16x64_0345_1_n_n_1_2_121641664.offCoord _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 5) ∈ gather_S12x32x64x16x64_S32x8x1_S12x32x8x64x16x64_0345_1_n_n_1_2_121641664.startIndexMap from List.mem_singleton.mpr rfl)]
    refine Eq.trans (congrArg (fun i => min (idx i).toInt.toNat 31 + 0 + 0) (?_ : _ = (ix3 r a (0 : Fin 1)))) ?_
    · funext e
      match e with
      | ⟨0, _⟩ => rfl
      | ⟨1, _⟩ => rfl
      | ⟨2, _⟩ => rfl
    · show min (idx (ix3 r a (0 : Fin 1))).toInt.toNat 31 + 0 + 0 = w
      rw [hw]
      omega
  | ⟨2, _⟩ =>
    show gather_S12x32x64x16x64_S32x8x1_S12x32x8x64x16x64_0345_1_n_n_1_2_121641664.start _ idx 2 + gather_S12x32x64x16x64_S32x8x1_S12x32x8x64x16x64_0345_1_n_n_1_2_121641664.batchCoord _ 2 + gather_S12x32x64x16x64_S32x8x1_S12x32x8x64x16x64_0345_1_n_n_1_2_121641664.offCoord _ 2 = _
    rw [GatherDims.batchCoord_eq_zero _ _ _ List.not_mem_nil]
    unfold GatherDims.start GatherDims.offCoord
    rw [dif_neg (show (2 : Fin 5) ∉ gather_S12x32x64x16x64_S32x8x1_S12x32x8x64x16x64_0345_1_n_n_1_2_121641664.startIndexMap from
        (show (2 : Fin 5) ∉ ([1] : List (Fin 5)) by decide)),
      dif_pos (show (2 : Fin 5) ∈ gather_S12x32x64x16x64_S32x8x1_S12x32x8x64x16x64_0345_1_n_n_1_2_121641664.sKept from
        (GatherDims.mem_sKept _ _).2 ⟨(show (2 : Fin 5) ∉ ([1] : List (Fin 5)) by decide), List.not_mem_nil⟩),
      Nat.zero_add]
    rfl
  | ⟨3, _⟩ =>
    show gather_S12x32x64x16x64_S32x8x1_S12x32x8x64x16x64_0345_1_n_n_1_2_121641664.start _ idx 3 + gather_S12x32x64x16x64_S32x8x1_S12x32x8x64x16x64_0345_1_n_n_1_2_121641664.batchCoord _ 3 + gather_S12x32x64x16x64_S32x8x1_S12x32x8x64x16x64_0345_1_n_n_1_2_121641664.offCoord _ 3 = _
    rw [GatherDims.batchCoord_eq_zero _ _ _ List.not_mem_nil]
    unfold GatherDims.start GatherDims.offCoord
    rw [dif_neg (show (3 : Fin 5) ∉ gather_S12x32x64x16x64_S32x8x1_S12x32x8x64x16x64_0345_1_n_n_1_2_121641664.startIndexMap from
        (show (3 : Fin 5) ∉ ([1] : List (Fin 5)) by decide)),
      dif_pos (show (3 : Fin 5) ∈ gather_S12x32x64x16x64_S32x8x1_S12x32x8x64x16x64_0345_1_n_n_1_2_121641664.sKept from
        (GatherDims.mem_sKept _ _).2 ⟨(show (3 : Fin 5) ∉ ([1] : List (Fin 5)) by decide), List.not_mem_nil⟩),
      Nat.zero_add]
    rfl
  | ⟨4, _⟩ =>
    show gather_S12x32x64x16x64_S32x8x1_S12x32x8x64x16x64_0345_1_n_n_1_2_121641664.start _ idx 4 + gather_S12x32x64x16x64_S32x8x1_S12x32x8x64x16x64_0345_1_n_n_1_2_121641664.batchCoord _ 4 + gather_S12x32x64x16x64_S32x8x1_S12x32x8x64x16x64_0345_1_n_n_1_2_121641664.offCoord _ 4 = _
    rw [GatherDims.batchCoord_eq_zero _ _ _ List.not_mem_nil]
    unfold GatherDims.start GatherDims.offCoord
    rw [dif_neg (show (4 : Fin 5) ∉ gather_S12x32x64x16x64_S32x8x1_S12x32x8x64x16x64_0345_1_n_n_1_2_121641664.startIndexMap from
        (show (4 : Fin 5) ∉ ([1] : List (Fin 5)) by decide)),
      dif_pos (show (4 : Fin 5) ∈ gather_S12x32x64x16x64_S32x8x1_S12x32x8x64x16x64_0345_1_n_n_1_2_121641664.sKept from
        (GatherDims.mem_sKept _ _).2 ⟨(show (4 : Fin 5) ∉ ([1] : List (Fin 5)) by decide), List.not_mem_nil⟩),
      Nat.zero_add]
    rfl

/-- A gather of grid columns: column `u` of query column `j` is the column that the index names. -/
theorem gather_cols {α : Type} (x : S12x32x8x64x16x64.Idx → α) (idx : IVec S64x16x1 32) (b : Fin 12) (r : Fin 32) (a : Fin 8) (j : Fin 64) (u : Fin 16) (h : Fin 16) (d : Fin 64)
    (w : Nat) (hlt : w ≤ 63) (hw : (idx (ix3 j u (0 : Fin 1))).toInt.toNat = w) :
    Host.gather gather_S12x32x8x64x16x64_S64x16x1_S12x32x8x64x16x16x64_01256_3_n_n_3_2_1232811664 x idx
      (ix7 b r a j u h d) = x (ix6 b r a (⟨w, by omega⟩ : Fin 64) h d) := by
  unfold Host.gather
  congr 1
  funext e
  refine Fin.ext ?_
  match e with
  | ⟨0, _⟩ =>
    show gather_S12x32x8x64x16x64_S64x16x1_S12x32x8x64x16x16x64_01256_3_n_n_3_2_1232811664.start _ idx 0 + gather_S12x32x8x64x16x64_S64x16x1_S12x32x8x64x16x16x64_01256_3_n_n_3_2_1232811664.batchCoord _ 0 + gather_S12x32x8x64x16x64_S64x16x1_S12x32x8x64x16x16x64_01256_3_n_n_3_2_1232811664.offCoord _ 0 = _
    rw [GatherDims.batchCoord_eq_zero _ _ _ List.not_mem_nil]
    unfold GatherDims.start GatherDims.offCoord
    rw [dif_neg (show (0 : Fin 6) ∉ gather_S12x32x8x64x16x64_S64x16x1_S12x32x8x64x16x16x64_01256_3_n_n_3_2_1232811664.startIndexMap from
        (show (0 : Fin 6) ∉ ([3] : List (Fin 6)) by decide)),
      dif_pos (show (0 : Fin 6) ∈ gather_S12x32x8x64x16x64_S64x16x1_S12x32x8x64x16x16x64_01256_3_n_n_3_2_1232811664.sKept from
        (GatherDims.mem_sKept _ _).2 ⟨(show (0 : Fin 6) ∉ ([3] : List (Fin 6)) by decide), List.not_mem_nil⟩),
      Nat.zero_add]
    rfl
  | ⟨1, _⟩ =>
    show gather_S12x32x8x64x16x64_S64x16x1_S12x32x8x64x16x16x64_01256_3_n_n_3_2_1232811664.start _ idx 1 + gather_S12x32x8x64x16x64_S64x16x1_S12x32x8x64x16x16x64_01256_3_n_n_3_2_1232811664.batchCoord _ 1 + gather_S12x32x8x64x16x64_S64x16x1_S12x32x8x64x16x16x64_01256_3_n_n_3_2_1232811664.offCoord _ 1 = _
    rw [GatherDims.batchCoord_eq_zero _ _ _ List.not_mem_nil]
    unfold GatherDims.start GatherDims.offCoord
    rw [dif_neg (show (1 : Fin 6) ∉ gather_S12x32x8x64x16x64_S64x16x1_S12x32x8x64x16x16x64_01256_3_n_n_3_2_1232811664.startIndexMap from
        (show (1 : Fin 6) ∉ ([3] : List (Fin 6)) by decide)),
      dif_pos (show (1 : Fin 6) ∈ gather_S12x32x8x64x16x64_S64x16x1_S12x32x8x64x16x16x64_01256_3_n_n_3_2_1232811664.sKept from
        (GatherDims.mem_sKept _ _).2 ⟨(show (1 : Fin 6) ∉ ([3] : List (Fin 6)) by decide), List.not_mem_nil⟩),
      Nat.zero_add]
    rfl
  | ⟨2, _⟩ =>
    show gather_S12x32x8x64x16x64_S64x16x1_S12x32x8x64x16x16x64_01256_3_n_n_3_2_1232811664.start _ idx 2 + gather_S12x32x8x64x16x64_S64x16x1_S12x32x8x64x16x16x64_01256_3_n_n_3_2_1232811664.batchCoord _ 2 + gather_S12x32x8x64x16x64_S64x16x1_S12x32x8x64x16x16x64_01256_3_n_n_3_2_1232811664.offCoord _ 2 = _
    rw [GatherDims.batchCoord_eq_zero _ _ _ List.not_mem_nil]
    unfold GatherDims.start GatherDims.offCoord
    rw [dif_neg (show (2 : Fin 6) ∉ gather_S12x32x8x64x16x64_S64x16x1_S12x32x8x64x16x16x64_01256_3_n_n_3_2_1232811664.startIndexMap from
        (show (2 : Fin 6) ∉ ([3] : List (Fin 6)) by decide)),
      dif_pos (show (2 : Fin 6) ∈ gather_S12x32x8x64x16x64_S64x16x1_S12x32x8x64x16x16x64_01256_3_n_n_3_2_1232811664.sKept from
        (GatherDims.mem_sKept _ _).2 ⟨(show (2 : Fin 6) ∉ ([3] : List (Fin 6)) by decide), List.not_mem_nil⟩),
      Nat.zero_add]
    rfl
  | ⟨3, _⟩ =>
    show gather_S12x32x8x64x16x64_S64x16x1_S12x32x8x64x16x16x64_01256_3_n_n_3_2_1232811664.start _ idx 3 + gather_S12x32x8x64x16x64_S64x16x1_S12x32x8x64x16x16x64_01256_3_n_n_3_2_1232811664.batchCoord _ 3 + gather_S12x32x8x64x16x64_S64x16x1_S12x32x8x64x16x16x64_01256_3_n_n_3_2_1232811664.offCoord _ 3 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (3 : Fin 6) ∈ gather_S12x32x8x64x16x64_S64x16x1_S12x32x8x64x16x16x64_01256_3_n_n_3_2_1232811664.startIndexMap from List.mem_singleton.mpr rfl)]
    refine Eq.trans (congrArg (fun i => min (idx i).toInt.toNat 63 + 0 + 0) (?_ : _ = (ix3 j u (0 : Fin 1)))) ?_
    · funext e
      match e with
      | ⟨0, _⟩ => rfl
      | ⟨1, _⟩ => rfl
      | ⟨2, _⟩ => rfl
    · show min (idx (ix3 j u (0 : Fin 1))).toInt.toNat 63 + 0 + 0 = w
      rw [hw]
      omega
  | ⟨4, _⟩ =>
    show gather_S12x32x8x64x16x64_S64x16x1_S12x32x8x64x16x16x64_01256_3_n_n_3_2_1232811664.start _ idx 4 + gather_S12x32x8x64x16x64_S64x16x1_S12x32x8x64x16x16x64_01256_3_n_n_3_2_1232811664.batchCoord _ 4 + gather_S12x32x8x64x16x64_S64x16x1_S12x32x8x64x16x16x64_01256_3_n_n_3_2_1232811664.offCoord _ 4 = _
    rw [GatherDims.batchCoord_eq_zero _ _ _ List.not_mem_nil]
    unfold GatherDims.start GatherDims.offCoord
    rw [dif_neg (show (4 : Fin 6) ∉ gather_S12x32x8x64x16x64_S64x16x1_S12x32x8x64x16x16x64_01256_3_n_n_3_2_1232811664.startIndexMap from
        (show (4 : Fin 6) ∉ ([3] : List (Fin 6)) by decide)),
      dif_pos (show (4 : Fin 6) ∈ gather_S12x32x8x64x16x64_S64x16x1_S12x32x8x64x16x16x64_01256_3_n_n_3_2_1232811664.sKept from
        (GatherDims.mem_sKept _ _).2 ⟨(show (4 : Fin 6) ∉ ([3] : List (Fin 6)) by decide), List.not_mem_nil⟩),
      Nat.zero_add]
    rfl
  | ⟨5, _⟩ =>
    show gather_S12x32x8x64x16x64_S64x16x1_S12x32x8x64x16x16x64_01256_3_n_n_3_2_1232811664.start _ idx 5 + gather_S12x32x8x64x16x64_S64x16x1_S12x32x8x64x16x16x64_01256_3_n_n_3_2_1232811664.batchCoord _ 5 + gather_S12x32x8x64x16x64_S64x16x1_S12x32x8x64x16x16x64_01256_3_n_n_3_2_1232811664.offCoord _ 5 = _
    rw [GatherDims.batchCoord_eq_zero _ _ _ List.not_mem_nil]
    unfold GatherDims.start GatherDims.offCoord
    rw [dif_neg (show (5 : Fin 6) ∉ gather_S12x32x8x64x16x64_S64x16x1_S12x32x8x64x16x16x64_01256_3_n_n_3_2_1232811664.startIndexMap from
        (show (5 : Fin 6) ∉ ([3] : List (Fin 6)) by decide)),
      dif_pos (show (5 : Fin 6) ∈ gather_S12x32x8x64x16x64_S64x16x1_S12x32x8x64x16x16x64_01256_3_n_n_3_2_1232811664.sKept from
        (GatherDims.mem_sKept _ _).2 ⟨(show (5 : Fin 6) ∉ ([3] : List (Fin 6)) by decide), List.not_mem_nil⟩),
      Nat.zero_add]
    rfl

/-- A gather of the bias's rows. -/
theorem gather_bias_rows {α : Type} (x : S16x15x31.Idx → α) (idx : IVec S32x8x1 32) (h : Fin 16) (r : Fin 32) (a : Fin 8) (u : Fin 31)
    (w : Nat) (hlt : w ≤ 14) (hw : (idx (ix3 r a (0 : Fin 1))).toInt.toNat = w) :
    Host.gather gather_S16x15x31_S32x8x1_S16x32x8x31_03_1_n_n_1_2_16131 x idx
      (ix4 h r a u) = x (ix3 h (⟨w, by omega⟩ : Fin 15) u) := by
  unfold Host.gather
  congr 1
  funext e
  refine Fin.ext ?_
  match e with
  | ⟨0, _⟩ =>
    show gather_S16x15x31_S32x8x1_S16x32x8x31_03_1_n_n_1_2_16131.start _ idx 0 + gather_S16x15x31_S32x8x1_S16x32x8x31_03_1_n_n_1_2_16131.batchCoord _ 0 + gather_S16x15x31_S32x8x1_S16x32x8x31_03_1_n_n_1_2_16131.offCoord _ 0 = _
    rw [GatherDims.batchCoord_eq_zero _ _ _ List.not_mem_nil]
    unfold GatherDims.start GatherDims.offCoord
    rw [dif_neg (show (0 : Fin 3) ∉ gather_S16x15x31_S32x8x1_S16x32x8x31_03_1_n_n_1_2_16131.startIndexMap from
        (show (0 : Fin 3) ∉ ([1] : List (Fin 3)) by decide)),
      dif_pos (show (0 : Fin 3) ∈ gather_S16x15x31_S32x8x1_S16x32x8x31_03_1_n_n_1_2_16131.sKept from
        (GatherDims.mem_sKept _ _).2 ⟨(show (0 : Fin 3) ∉ ([1] : List (Fin 3)) by decide), List.not_mem_nil⟩),
      Nat.zero_add]
    rfl
  | ⟨1, _⟩ =>
    show gather_S16x15x31_S32x8x1_S16x32x8x31_03_1_n_n_1_2_16131.start _ idx 1 + gather_S16x15x31_S32x8x1_S16x32x8x31_03_1_n_n_1_2_16131.batchCoord _ 1 + gather_S16x15x31_S32x8x1_S16x32x8x31_03_1_n_n_1_2_16131.offCoord _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 3) ∈ gather_S16x15x31_S32x8x1_S16x32x8x31_03_1_n_n_1_2_16131.startIndexMap from List.mem_singleton.mpr rfl)]
    refine Eq.trans (congrArg (fun i => min (idx i).toInt.toNat 14 + 0 + 0) (?_ : _ = (ix3 r a (0 : Fin 1)))) ?_
    · funext e
      match e with
      | ⟨0, _⟩ => rfl
      | ⟨1, _⟩ => rfl
      | ⟨2, _⟩ => rfl
    · show min (idx (ix3 r a (0 : Fin 1))).toInt.toNat 14 + 0 + 0 = w
      rw [hw]
      omega
  | ⟨2, _⟩ =>
    show gather_S16x15x31_S32x8x1_S16x32x8x31_03_1_n_n_1_2_16131.start _ idx 2 + gather_S16x15x31_S32x8x1_S16x32x8x31_03_1_n_n_1_2_16131.batchCoord _ 2 + gather_S16x15x31_S32x8x1_S16x32x8x31_03_1_n_n_1_2_16131.offCoord _ 2 = _
    rw [GatherDims.batchCoord_eq_zero _ _ _ List.not_mem_nil]
    unfold GatherDims.start GatherDims.offCoord
    rw [dif_neg (show (2 : Fin 3) ∉ gather_S16x15x31_S32x8x1_S16x32x8x31_03_1_n_n_1_2_16131.startIndexMap from
        (show (2 : Fin 3) ∉ ([1] : List (Fin 3)) by decide)),
      dif_pos (show (2 : Fin 3) ∈ gather_S16x15x31_S32x8x1_S16x32x8x31_03_1_n_n_1_2_16131.sKept from
        (GatherDims.mem_sKept _ _).2 ⟨(show (2 : Fin 3) ∉ ([1] : List (Fin 3)) by decide), List.not_mem_nil⟩),
      Nat.zero_add]
    rfl

/-- A gather of the bias's columns. -/
theorem gather_bias_cols {α : Type} (x : S16x32x8x31.Idx → α) (idx : IVec S64x16x1 32) (h : Fin 16) (r : Fin 32) (a : Fin 8) (j : Fin 64) (u : Fin 16)
    (w : Nat) (hlt : w ≤ 30) (hw : (idx (ix3 j u (0 : Fin 1))).toInt.toNat = w) :
    Host.gather gather_S16x32x8x31_S64x16x1_S16x32x8x64x16_012_3_n_n_3_2_163281 x idx
      (ix5 h r a j u) = x (ix4 h r a (⟨w, by omega⟩ : Fin 31)) := by
  unfold Host.gather
  congr 1
  funext e
  refine Fin.ext ?_
  match e with
  | ⟨0, _⟩ =>
    show gather_S16x32x8x31_S64x16x1_S16x32x8x64x16_012_3_n_n_3_2_163281.start _ idx 0 + gather_S16x32x8x31_S64x16x1_S16x32x8x64x16_012_3_n_n_3_2_163281.batchCoord _ 0 + gather_S16x32x8x31_S64x16x1_S16x32x8x64x16_012_3_n_n_3_2_163281.offCoord _ 0 = _
    rw [GatherDims.batchCoord_eq_zero _ _ _ List.not_mem_nil]
    unfold GatherDims.start GatherDims.offCoord
    rw [dif_neg (show (0 : Fin 4) ∉ gather_S16x32x8x31_S64x16x1_S16x32x8x64x16_012_3_n_n_3_2_163281.startIndexMap from
        (show (0 : Fin 4) ∉ ([3] : List (Fin 4)) by decide)),
      dif_pos (show (0 : Fin 4) ∈ gather_S16x32x8x31_S64x16x1_S16x32x8x64x16_012_3_n_n_3_2_163281.sKept from
        (GatherDims.mem_sKept _ _).2 ⟨(show (0 : Fin 4) ∉ ([3] : List (Fin 4)) by decide), List.not_mem_nil⟩),
      Nat.zero_add]
    rfl
  | ⟨1, _⟩ =>
    show gather_S16x32x8x31_S64x16x1_S16x32x8x64x16_012_3_n_n_3_2_163281.start _ idx 1 + gather_S16x32x8x31_S64x16x1_S16x32x8x64x16_012_3_n_n_3_2_163281.batchCoord _ 1 + gather_S16x32x8x31_S64x16x1_S16x32x8x64x16_012_3_n_n_3_2_163281.offCoord _ 1 = _
    rw [GatherDims.batchCoord_eq_zero _ _ _ List.not_mem_nil]
    unfold GatherDims.start GatherDims.offCoord
    rw [dif_neg (show (1 : Fin 4) ∉ gather_S16x32x8x31_S64x16x1_S16x32x8x64x16_012_3_n_n_3_2_163281.startIndexMap from
        (show (1 : Fin 4) ∉ ([3] : List (Fin 4)) by decide)),
      dif_pos (show (1 : Fin 4) ∈ gather_S16x32x8x31_S64x16x1_S16x32x8x64x16_012_3_n_n_3_2_163281.sKept from
        (GatherDims.mem_sKept _ _).2 ⟨(show (1 : Fin 4) ∉ ([3] : List (Fin 4)) by decide), List.not_mem_nil⟩),
      Nat.zero_add]
    rfl
  | ⟨2, _⟩ =>
    show gather_S16x32x8x31_S64x16x1_S16x32x8x64x16_012_3_n_n_3_2_163281.start _ idx 2 + gather_S16x32x8x31_S64x16x1_S16x32x8x64x16_012_3_n_n_3_2_163281.batchCoord _ 2 + gather_S16x32x8x31_S64x16x1_S16x32x8x64x16_012_3_n_n_3_2_163281.offCoord _ 2 = _
    rw [GatherDims.batchCoord_eq_zero _ _ _ List.not_mem_nil]
    unfold GatherDims.start GatherDims.offCoord
    rw [dif_neg (show (2 : Fin 4) ∉ gather_S16x32x8x31_S64x16x1_S16x32x8x64x16_012_3_n_n_3_2_163281.startIndexMap from
        (show (2 : Fin 4) ∉ ([3] : List (Fin 4)) by decide)),
      dif_pos (show (2 : Fin 4) ∈ gather_S16x32x8x31_S64x16x1_S16x32x8x64x16_012_3_n_n_3_2_163281.sKept from
        (GatherDims.mem_sKept _ _).2 ⟨(show (2 : Fin 4) ∉ ([3] : List (Fin 4)) by decide), List.not_mem_nil⟩),
      Nat.zero_add]
    rfl
  | ⟨3, _⟩ =>
    show gather_S16x32x8x31_S64x16x1_S16x32x8x64x16_012_3_n_n_3_2_163281.start _ idx 3 + gather_S16x32x8x31_S64x16x1_S16x32x8x64x16_012_3_n_n_3_2_163281.batchCoord _ 3 + gather_S16x32x8x31_S64x16x1_S16x32x8x64x16_012_3_n_n_3_2_163281.offCoord _ 3 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (3 : Fin 4) ∈ gather_S16x32x8x31_S64x16x1_S16x32x8x64x16_012_3_n_n_3_2_163281.startIndexMap from List.mem_singleton.mpr rfl)]
    refine Eq.trans (congrArg (fun i => min (idx i).toInt.toNat 30 + 0 + 0) (?_ : _ = (ix3 j u (0 : Fin 1)))) ?_
    · funext e
      match e with
      | ⟨0, _⟩ => rfl
      | ⟨1, _⟩ => rfl
      | ⟨2, _⟩ => rfl
    · show min (idx (ix3 j u (0 : Fin 1))).toInt.toNat 30 + 0 + 0 = w
      rw [hw]
      omega

end Cert.Na

end
-- ==== Proof.Na.Reference.lean ====
module

public import proofs.«01_k».proof.Proof.Na.Gather
public import proofs.«01_k».proof.Proof.Na.Spec

@[expose] public section

set_option maxRecDepth 16384

noncomputable section

namespace Cert.Na

open Cert.ReferenceIdeal Cert.ReferenceIdeal.Gen Cert.ReferenceIdeal.Read Idealize.ShloMosaic Idealize.ShloMosaic.TcCoe Idealize.SL.Sem

/-- The reference's row index: row `a` of the eight that grid row `r` sees. -/
theorem row_word (r : Fin 32) (a : Fin 8) : (val_main_v39 (F := Ideal) (ix2 r a)).toInt.toNat = rowStart r.val + a.val := by
  have h : val_main_v39 (F := Ideal) (ix2 r a)
      = IntOp.addi (IntOp.minsi (IntOp.maxsi (IntOp.subi (BitVec.ofNat 32 r.val) 4#32) 0#32) 24#32) (BitVec.ofNat 32 a.val) := by
    simp only [val_main_v39, val_main_v38, val_main_v37, val_main_v36, val_main_v35, val_main_v34, val_main_v33,
      val_main_v32, val_main_v31, val_main_v30, val_main_v29, val_main_v28, val_main_v27, val_main_c_4, val_main_c_5,
      val_main_c_6]
    pointwise
  rw [h]
  clear h
  revert r a
  decide +kernel

/-- The reference's column index: column `u` of the sixteen that grid column `j` sees. -/
theorem col_word (j : Fin 64) (u : Fin 16) :
    (val_main_v19 (F := Ideal) (ix2 j u)).toInt.toNat = windowStart j.val + u.val := by
  have h : val_main_v19 (F := Ideal) (ix2 j u)
      = IntOp.addi (IntOp.minsi (IntOp.maxsi (IntOp.subi (BitVec.ofNat 32 j.val) 8#32) 0#32) 48#32) (BitVec.ofNat 32 u.val) := by
    simp only [val_main_v19, val_main_v18, val_main_v17, val_main_v16, val_main_v15, val_main_v14, val_main_v13,
      val_main_v12, val_main_v11, val_main_v10, val_main_v9, val_main_v8, val_main_v7, val_main_c, val_main_c_0,
      val_main_c_1]
    pointwise
  rw [h]
  clear h
  revert j u
  decide +kernel

/-- The reference's row of the bias. -/
theorem bias_row_word (r : Fin 32) (a : Fin 8) :
    (val_main_v46 (F := Ideal) (ix2 r a)).toInt.toNat = rowStart r.val + a.val + 7 - r.val := by
  have h : val_main_v46 (F := Ideal) (ix2 r a)
      = IntOp.subi (IntOp.addi (IntOp.subi (val_main_v39 (F := Ideal) (ix2 r a)) (BitVec.ofNat 32 r.val)) 8#32) 1#32 := by
    simp only [val_main_v46, val_main_v45, val_main_v44, val_main_v43, val_main_v42, val_main_v41, val_main_v40,
      val_main_v27, val_main_c_7, val_main_c_8]
    pointwise
  have h' : val_main_v39 (F := Ideal) (ix2 r a)
      = IntOp.addi (IntOp.minsi (IntOp.maxsi (IntOp.subi (BitVec.ofNat 32 r.val) 4#32) 0#32) 24#32) (BitVec.ofNat 32 a.val) := by
    simp only [val_main_v39, val_main_v38, val_main_v37, val_main_v36, val_main_v35, val_main_v34, val_main_v33,
      val_main_v32, val_main_v31, val_main_v30, val_main_v29, val_main_v28, val_main_v27, val_main_c_4, val_main_c_5,
      val_main_c_6]
    pointwise
  rw [h, h']
  clear h h'
  revert r a
  decide +kernel

/-- The reference's column of the bias. -/
theorem bias_col_word (j : Fin 64) (u : Fin 16) :
    (val_main_v26 (F := Ideal) (ix2 j u)).toInt.toNat = windowStart j.val + u.val + 15 - j.val := by
  have h : val_main_v26 (F := Ideal) (ix2 j u)
      = IntOp.subi (IntOp.addi (IntOp.subi (val_main_v19 (F := Ideal) (ix2 j u)) (BitVec.ofNat 32 j.val)) 16#32) 1#32 := by
    simp only [val_main_v26, val_main_v25, val_main_v24, val_main_v23, val_main_v22, val_main_v21, val_main_v20,
      val_main_v7, val_main_c_2, val_main_c_3]
    pointwise
  have h' : val_main_v19 (F := Ideal) (ix2 j u)
      = IntOp.addi (IntOp.minsi (IntOp.maxsi (IntOp.subi (BitVec.ofNat 32 j.val) 8#32) 0#32) 48#32) (BitVec.ofNat 32 u.val) := by
    simp only [val_main_v19, val_main_v18, val_main_v17, val_main_v16, val_main_v15, val_main_v14, val_main_v13,
      val_main_v12, val_main_v11, val_main_v10, val_main_v9, val_main_v8, val_main_v7, val_main_c, val_main_c_0,
      val_main_c_1]
    pointwise
  rw [h, h']
  clear h h'
  revert j u
  decide +kernel

variable (x0 : Vec Ideal S12x2048x3072 .bf16) (x1 : Vec Ideal S16x15x31 .f32)

/-- The queries, cell by cell and head by head. -/
theorem queries_at (b : Fin 12) (r : Fin 32) (j : Fin 64) (h : Fin 16) (d : Fin 64) :
    val_main_v4 (F := Ideal) x0 (ix5 b r j h d) = x0 (ix3 b (cellPos r j) (qLane h d)) := by
  unfold val_main_v4 val_main_v1 val_main_v0
  pointwise
  rfl

/-- The keys, cell by cell and head by head. -/
theorem keys_at (b : Fin 12) (r : Fin 32) (j : Fin 64) (h : Fin 16) (d : Fin 64) :
    val_main_v5 (F := Ideal) x0 (ix5 b r j h d) = x0 (ix3 b (cellPos r j) (kLane h d)) := by
  unfold val_main_v5 val_main_v2 val_main_v0
  pointwise
  rfl

/-- The values, cell by cell and head by head. -/
theorem values_at (b : Fin 12) (r : Fin 32) (j : Fin 64) (h : Fin 16) (d : Fin 64) :
    val_main_v6 (F := Ideal) x0 (ix5 b r j h d) = x0 (ix3 b (cellPos r j) (vLane h d)) := by
  unfold val_main_v6 val_main_v3 val_main_v0
  pointwise
  rfl

/-- The keys of a cell's neighbours. -/
theorem near_keys_at (b : Fin 12) (r : Fin 32) (j : Fin 64) (n : Fin 128) (h : Fin 16) (d : Fin 64) :
    val_main_v50 (F := Ideal) x0 (ix6 b r j n h d) = x0 (ix3 b (keyPos r j n) (kLane h d)) := by
  have e : val_main_v50 (F := Ideal) x0 (ix6 b r j n h d)
      = val_main_v48 (F := Ideal) x0 (ix7 b r (⟨n.val / 16, by omega⟩ : Fin 8) j (⟨n.val % 16, by omega⟩ : Fin 16) h d) := by
    unfold val_main_v50 val_main_v49
    pointwise
  rw [e]
  unfold val_main_v48
  rw [gather_cols _ _ _ _ _ _ _ _ _ (windowStart j.val + n.val % 16) (by unfold windowStart; omega)
    (by rw [← col_word j ⟨n.val % 16, by omega⟩]; unfold val_main_call1_v0; pointwise)]
  unfold val_main_v47
  rw [gather_rows _ _ _ _ _ _ _ _ (rowStart r.val + n.val / 16) (by unfold rowStart; omega)
    (by rw [← row_word r ⟨n.val / 16, by omega⟩]; unfold val_main_call0_v0; pointwise), keys_at]
  rfl

/-- The values of a cell's neighbours. -/
theorem near_values_at (b : Fin 12) (r : Fin 32) (j : Fin 64) (n : Fin 128) (h : Fin 16) (d : Fin 64) :
    val_main_v54 (F := Ideal) x0 (ix6 b r j n h d) = x0 (ix3 b (keyPos r j n) (vLane h d)) := by
  have e : val_main_v54 (F := Ideal) x0 (ix6 b r j n h d)
      = val_main_v52 (F := Ideal) x0 (ix7 b r (⟨n.val / 16, by omega⟩ : Fin 8) j (⟨n.val % 16, by omega⟩ : Fin 16) h d) := by
    unfold val_main_v54 val_main_v53
    pointwise
  rw [e]
  unfold val_main_v52
  rw [gather_cols _ _ _ _ _ _ _ _ _ (windowStart j.val + n.val % 16) (by unfold windowStart; omega)
    (by rw [← col_word j ⟨n.val % 16, by omega⟩]; unfold val_main_call3_v0; pointwise)]
  unfold val_main_v51
  rw [gather_rows _ _ _ _ _ _ _ _ (rowStart r.val + n.val / 16) (by unfold rowStart; omega)
    (by rw [← row_word r ⟨n.val / 16, by omega⟩]; unfold val_main_call2_v0; pointwise), values_at]
  rfl

/-- The bias of a cell's neighbours. -/
theorem near_bias_at (r : Fin 32) (h : Fin 16) (j : Fin 64) (n : Fin 128) :
    val_main_v58 (F := Ideal) x1 (ix4 r h j n) = x1 (ix3 h (biasRow r n) (biasCol j n)) := by
  have e : val_main_v58 (F := Ideal) x1 (ix4 r h j n)
      = val_main_v56 (F := Ideal) x1 (ix5 h r (⟨n.val / 16, by omega⟩ : Fin 8) j (⟨n.val % 16, by omega⟩ : Fin 16)) := by
    unfold val_main_v58 val_main_v57
    pointwise
  rw [e]
  unfold val_main_v56
  rw [gather_bias_cols _ _ _ _ _ _ _ (windowStart j.val + n.val % 16 + 15 - j.val) (by unfold windowStart; omega)
    (by rw [← bias_col_word j ⟨n.val % 16, by omega⟩]; unfold val_main_call5_v0; pointwise)]
  unfold val_main_v55
  rw [gather_bias_rows _ _ _ _ _ _ (rowStart r.val + n.val / 16 + 7 - r.val) (by unfold rowStart; omega)
    (by rw [← bias_row_word r ⟨n.val / 16, by omega⟩]; unfold val_main_call4_v0; pointwise)]
  rfl

/-- The argument's entries. -/
def entries (b : Fin 12) (s : Fin 2048) (c : Fin 3072) : EReal := x0 (ix3 b s c)
/-- The bias's entries. -/
def biases (h : Fin 16) (a : Fin 15) (c : Fin 31) : EReal := x1 (ix3 h a c)

/-- The reference's scores. -/
theorem scores_at (b : Fin 12) (r : Fin 32) (h : Fin 16) (j : Fin 64) (n : Fin 128) :
    val_main_v64 (F := Ideal) x0 x1 (ix5 b r h j n) = score (entries x0) (biases x1) b r h j n := by
  have e : val_main_v64 (F := Ideal) x0 x1 (ix5 b r h j n)
      = (∑ d, val_main_v4 (F := Ideal) x0 (ix5 b r j h d) * val_main_cst (F := Ideal) ix0
          * val_main_v50 (F := Ideal) x0 (ix6 b r j n h d)) + val_main_v58 (F := Ideal) x1 (ix4 r h j n) := by
    simp only [val_main_v64, val_main_v63, val_main_v62, val_main_v61, val_main_v60, val_main_v59]
    pointwise
  rw [e, near_bias_at]
  unfold score
  refine congrArg₂ (· + ·) (Finset.sum_congr rfl fun d _ => ?_) rfl
  rw [queries_at, near_keys_at]
  rfl

/-- The largest along the last axis, read at an index. -/
theorem largest_at (S : FVec Ideal S12x32x16x64x128 .f32) (b : Fin 12) (r : Fin 32) (h : Fin 16) (j : Fin 64) :
    Host.reduce FloatOps.maximumf S (constant (F := Ideal) S_ .f32 0xFF800000#32) reducesTo_S12x32x16x64x128_S12x32x16x64_d4 h_S_
      (ix4 b r h j) = top fun n => S (ix5 b r h j n) := by
  unfold top
  rw [← ofBits_neg_inf]
  pointwise

/-- The reference's largest score of a cell. -/
theorem top_at (b : Fin 12) (r : Fin 32) (h : Fin 16) (j : Fin 64) :
    val_main_v67 (F := Ideal) x0 x1 (ix4 b r h j) = top (score (entries x0) (biases x1) b r h j) := by
  rw [val_main_v67_apply, val_main_v66_apply]
  unfold val_main_v65 val_main_cst_9
  rw [largest_at]
  refine Eq.trans (b := max (Ideal.ofBits .f32 4286578688#32) _) rfl ?_
  rw [ofBits_neg_inf, max_eq_right bot_le]
  exact congrArg top (funext fun n => scores_at x0 x1 b r h j n)

/-- The reference's exponentials. -/
theorem weights_at (b : Fin 12) (r : Fin 32) (h : Fin 16) (j : Fin 64) (n : Fin 128) :
    val_main_v71 (F := Ideal) x0 x1 (ix5 b r h j n)
      = Ideal.exp (score (entries x0) (biases x1) b r h j n - top (score (entries x0) (biases x1) b r h j)) := by
  have e : val_main_v69 (F := Ideal) x0 x1 (ix5 b r h j n) = val_main_v67 (F := Ideal) x0 x1 (ix4 b r h j) := by
    unfold val_main_v69 val_main_v68
    pointwise
  rw [val_main_v71_apply, val_main_v70_apply, e, top_at, scores_at]
  rfl

/-- The reference's sums of exponentials. -/
theorem total_at (b : Fin 12) (r : Fin 32) (h : Fin 16) (j : Fin 64) (n : Fin 128) :
    val_main_v74 (F := Ideal) x0 x1 (ix5 b r h j n)
      = ∑ n', Ideal.exp (score (entries x0) (biases x1) b r h j n' - top (score (entries x0) (biases x1) b r h j)) := by
  have e : val_main_v74 (F := Ideal) x0 x1 (ix5 b r h j n)
      = val_main_cst_11 (F := Ideal) (Shape.Idx.first h_S_) + ∑ n', val_main_v71 (F := Ideal) x0 x1 (ix5 b r h j n') := by
    unfold val_main_v74 val_main_v73 val_main_v72
    pointwise
  rw [e, Finset.sum_congr rfl fun n' _ => weights_at x0 x1 b r h j n']
  refine Eq.trans (b := Ideal.ofBits .f32 0#32 + _) rfl ?_
  rw [show Ideal.ofBits .f32 0#32 = 0 by simp [Ideal.ofBits, Ideal.ieee], zero_add]

/-- The reference's result is neighbourhood attention, entry by entry. -/
theorem reference_at (b : Fin 12) (s : Fin 2048) (l : Fin 1024) :
    val_main_v78 (F := Ideal) x0 x1 (ix3 b s l)
      = attention (entries x0) (biases x1) b (⟨s.val / 64, by omega⟩ : Fin 32) (⟨s.val % 64, by omega⟩ : Fin 64)
          (⟨l.val / 64, by omega⟩ : Fin 16) (⟨l.val % 64, by omega⟩ : Fin 64) := by
  have e : val_main_v78 (F := Ideal) x0 x1 (ix3 b s l)
      = ∑ n, val_main_v75 (F := Ideal) x0 x1 (ix5 b (⟨s.val / 64, by omega⟩ : Fin 32) (⟨l.val / 64, by omega⟩ : Fin 16)
            (⟨s.val % 64, by omega⟩ : Fin 64) n)
          * val_main_v54 (F := Ideal) x0 (ix6 b (⟨s.val / 64, by omega⟩ : Fin 32) (⟨s.val % 64, by omega⟩ : Fin 64) n
            (⟨l.val / 64, by omega⟩ : Fin 16) (⟨l.val % 64, by omega⟩ : Fin 64)) := by
    unfold val_main_v78 val_main_v77 val_main_v76
    pointwise
  rw [e]
  unfold attention
  refine Finset.sum_congr rfl fun n _ => ?_
  rw [near_values_at, val_main_v75_apply, weights_at, total_at]
  rfl

end Cert.Na

end
-- ==== Proof.Mm.Project.lean ====
module

public import proofs.«01_k».proof.Proof.Gen.ProjectIdeal.Frame
public import Idealize.ShloMosaic.Lib.Pipeline.ValueKit

@[expose] public section

set_option maxRecDepth 16384

noncomputable section

namespace Cert.Mm.Project

open Cert.ProjectIdeal Cert.ProjectIdeal.Gen Idealize.ShloMosaic Idealize.ShloMosaic.TcCoe Idealize.SL.Sem

variable (V : (c : Dev nD) → (b : Ref sig .tc) → Buf (Elt Ideal) ((c : Thread nD τ).loc b))

/-- The norm of each token, times its weights. -/
def normed (x : Vec Ideal S24576x4096 .f32) (g : Vec Ideal S1x4096 .f32) : Vec Ideal S24576x4096 .bf16 := fun i =>
  x i * Ideal.rsqrt (Ideal.div (∑ k : Fin 4096, x (ix2 (i 0) k : S24576x4096.Idx) * x (ix2 (i 0) k : S24576x4096.Idx))
    (Ideal.ofBits .f32 0x45800000#32) + Ideal.ofBits .f32 0x358637BD#32) * g (ix2 0 (i 1) : S1x4096.Idx)

/-- The largest absolute value of a token's norm, and at least a small positive number. -/
def largest (x : Vec Ideal S24576x4096 .f32) (g : Vec Ideal S1x4096 .f32) (r : Fin 24576) : EReal :=
  max (Finset.fold max (Ideal.ofBits .f32 0xFF800000#32) (fun k : Fin 4096 =>
    max (normed x g (ix2 r k : S24576x4096.Idx)) (-normed x g (ix2 r k : S24576x4096.Idx))) Finset.univ)
    (Ideal.ofBits .f32 0x0DA24260#32)

/-- The norm of each token, over its largest absolute value. -/
def scaled (x : Vec Ideal S24576x4096 .f32) (g : Vec Ideal S1x4096 .f32) : Vec Ideal S24576x4096 .fp8e4m3 := fun i =>
  normed x g i * Ideal.div (Ideal.ofBits .f32 0x43E00000#32) (largest x g (i 0))

/-- The factor that undoes it. -/
def scale (x : Vec Ideal S24576x4096 .f32) (g : Vec Ideal S1x4096 .f32) : Vec Ideal S24576x1 .f32 := fun i =>
  largest x g (i 0) * (Named.named κ "inv_f8_max" 0x3B124925#32 : Ideal .f32)

/-- The projection to the first branch. -/
def projA (a : Vec Ideal S24576x4096 .bf16) (w : Vec Ideal S4096x1024 .bf16) : Vec Ideal S24576x1024 .bf16 := fun i =>
  ∑ k : Fin 4096, a (ix2 (i 0) k : S24576x4096.Idx) * w (ix2 k (i 1) : S4096x1024.Idx)

/-- The projection to the second branch. -/
def projB (a : Vec Ideal S24576x4096 .bf16) (w : Vec Ideal S4096x6144 .bf16) : Vec Ideal S24576x6144 .f32 := fun i =>
  ∑ k : Fin 4096, a (ix2 (i 0) k : S24576x4096.Idx) * w (ix2 k (i 1) : S4096x6144.Idx)

/-- The projection to the second branch's small factors. -/
def projLo (a : Vec Ideal S24576x4096 .bf16) (w : Vec Ideal S4096x384 .bf16) : Vec Ideal S24576x384 .f32 := fun i =>
  ∑ k : Fin 4096, a (ix2 (i 0) k : S24576x4096.Idx) * w (ix2 k (i 1) : S4096x384.Idx)

/-- The projection to the third branch. -/
def projC (a : Vec Ideal S24576x4096 .bf16) (w : Vec Ideal S4096x3072 .bf16) : Vec Ideal S24576x3072 .bf16 := fun i =>
  ∑ k : Fin 4096, a (ix2 (i 0) k : S24576x4096.Idx) * w (ix2 k (i 1) : S4096x3072.Idx)

/-- Where the blocks of the first projection stand. -/
theorem index1 : ∀ t : Fin cfg1.N, win1_0.index t = ![t.val, 0] ∧ win1_1.index t = ![0, 0]
    ∧ win1_2.index t = ![t.val, 0] :=
  (by decide +kernel : ∀ t : Fin grid1.N, _)

/-- The first projection's array. -/
theorem projA_array (c : Dev nD) : (dat1 V c).arrAt 2 cfg1.N = projA (V c main_v1_0) (V c main_v15) := by
  refine (dat1 V c).arrAt_eq_of_covers 2 _ (by decide +kernel) fun t hf y => ?_
  blk_simp
  rw [after1_2]
  unfold out1_2
  frame_out
  pointwise [k1_pay1, projA]
  blk_point [iblk1, index1 t]

/-- Where the blocks of the second projection stand. -/
theorem index2 : ∀ t : Fin cfg2.N, win2_0.index t = ![t.val / 6, 0] ∧ win2_1.index t = ![0, t.val % 6]
    ∧ win2_2.index t = ![t.val / 6, t.val % 6] :=
  (by decide +kernel : ∀ t : Fin grid2.N, _)

/-- The second projection's array. -/
theorem projB_array (c : Dev nD) : (dat2 V c).arrAt 2 cfg2.N = projB (V c main_v1_0) (V c main_v17) := by
  refine (dat2 V c).arrAt_eq_of_covers 2 _ (by decide +kernel) fun t hf y => ?_
  blk_simp
  rw [after2_2]
  unfold out2_2
  frame_out
  pointwise [k2_pay1, projB]
  blk_point [iblk2, index2 t]

/-- Where the blocks of the third projection stand. -/
theorem index3 : ∀ t : Fin cfg3.N, win3_0.index t = ![t.val, 0] ∧ win3_1.index t = ![0, 0]
    ∧ win3_2.index t = ![t.val, 0] :=
  (by decide +kernel : ∀ t : Fin grid3.N, _)

/-- The third projection's array. -/
theorem projLo_array (c : Dev nD) : (dat3 V c).arrAt 2 cfg3.N = projLo (V c main_v1_0) (V c main_v19) := by
  refine (dat3 V c).arrAt_eq_of_covers 2 _ (by decide +kernel) fun t hf y => ?_
  blk_simp
  rw [after3_2]
  unfold out3_2
  frame_out
  pointwise [k3_pay1, projLo]
  blk_point [iblk3, index3 t]

/-- Where the blocks of the fourth projection stand. -/
theorem index4 : ∀ t : Fin cfg4.N, win4_0.index t = ![t.val / 3, 0] ∧ win4_1.index t = ![0, t.val % 3]
    ∧ win4_2.index t = ![t.val / 3, t.val % 3] :=
  (by decide +kernel : ∀ t : Fin grid4.N, _)

/-- The fourth projection's array. -/
theorem projC_array (c : Dev nD) : (dat4 V c).arrAt 2 cfg4.N = projC (V c main_v1_0) (V c main_v21) := by
  refine (dat4 V c).arrAt_eq_of_covers 2 _ (by decide +kernel) fun t hf y => ?_
  blk_simp
  rw [after4_2]
  unfold out4_2
  frame_out
  pointwise [k4_pay1, projC]
  blk_point [iblk4, index4 t]

end Cert.Mm.Project

end
-- ==== Proof.Mm.ProjectNorm.lean ====
module

public import proofs.«01_k».proof.Proof.Mm.Project
public import Idealize.ShloMosaic.Lib.Pipeline.ValueKit

@[expose] public section

set_option maxRecDepth 16384

noncomputable section

namespace Cert.Mm.Project

open Cert.ProjectIdeal Cert.ProjectIdeal.Gen Idealize.ShloMosaic Idealize.ShloMosaic.TcCoe Idealize.SL.Sem

variable (V : (c : Dev nD) → (b : Ref sig .tc) → Buf (Elt Ideal) ((c : Thread nD τ).loc b))

/-- Where the blocks of the norm stand. -/
theorem index0 : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- The norm's first array. -/
theorem normed_array (c : Dev nD) : (dat0 V c).arrAt 2 cfg0.N = normed (V c main_arg0) (V c main_v0) := by
  refine (dat0 V c).arrAt_eq_of_covers 2 _ (by decide +kernel) fun t hf y => ?_
  blk_simp
  rw [after0_2]
  unfold out0_2
  frame_out
  pointwise [k0_pay2, k0_pay1, normed]
  blk_point [iblk0, index0 t]

/-- The block's norm, entry by entry. -/
theorem block_normed (c : Dev nD) (t : Fin cfg0.N) (r : Fin 512) (k : Fin 4096) (R : Fin 24576)
    (hR : R.val = t.val * 512 + r.val) :
    k0_pay1 (F := Ideal) (iblk0 V c 0 t) (iblk0 V c 1 t) (ix2 r k) = normed (V c main_arg0) (V c main_v0) (ix2 R k) := by
  pointwise [k0_pay1, normed]
  blk_point [iblk0, index0 t]

/-- A column of a block's rows, read at a row. -/
theorem column_at (v : FVec Ideal S512 .f32) (r : Fin 512) :
    shapeCast S512x1 v shapeCasts_S512_S512x1 (ix2 r 0) = v (ix1 r) := by
  pointwise

/-- The largest of each row of a block. -/
theorem row_largest (y : FVec Ideal S512x4096 .f32) (r : Fin 512) :
    multiReduction .maximumf [1] S512 y 0xFF800000#32 reduces_S512x4096_S512 (.inl rfl) rfl (ix1 r)
    = Finset.fold max (Ideal.ofBits .f32 0xFF800000#32) (fun k : Fin 4096 => y (ix2 r k)) Finset.univ := by
  refine (Ideal.multiReduction_maximumf_single y _ reduces_S512x4096_S512 (.inl rfl) rfl (ix1 r)).trans ?_
  refine Finset.fold_congr fun k _ => congrArg y (funext fun a => ?_)
  match a with
  | ⟨0, _⟩ => rfl
  | ⟨1, _⟩ => rfl

/-- The block's largest absolute values. -/
theorem block_largest (c : Dev nD) (t : Fin cfg0.N) (r : Fin 512) (R : Fin 24576) (hR : R.val = t.val * 512 + r.val) :
    k0_pay3 (F := Ideal) (iblk0 V c 0 t) (iblk0 V c 1 t) (ix2 r 0) = largest (V c main_arg0) (V c main_v0) R := by
  have h := fun k => block_normed V c t r k R hR
  unfold k0_pay3 largest
  rw [ValueIdx.maximumf_apply]
  refine congrArg₂ max (((column_at _ r).trans (row_largest _ r)).trans (Finset.fold_congr fun k _ => ?_)) rfl
  exact congrArg (fun z : EReal => max z (-z)) (h k)

/-- The scaled block, read at an index. -/
theorem scaled_at (q : FVec Ideal S512x4096 .f32) (p : FVec Ideal S512x1 .f32) (i : S512x4096.Idx) :
    truncf .fp8e4m3 (mulf q (broadcastTo S512x4096 (divf (broadcast S512x1 (Scalar.ofBits .f32 0x43E00000#32)) p)
      broadcasts_S512x1_S512x4096)) bitsLt_fp8e4m3_f32 i
    = q i * Ideal.div (Ideal.ofBits .f32 0x43E00000#32) (p (ix2 (i 0) 0)) := by
  pointwise

/-- The row at which a block's row stands in the second array. -/
theorem row_scaled (t : Fin cfg0.N) (y : (win0_3.xblock (cfg0.grid.coords t)).Idx) :
    ((((View.whole main_v1_1).slice (win0_3.rect t)).emb y : S24576x4096.Idx) 0).val = t.val * 512 + (y 0).val := by
  have h := win0_3.rect_emb_val t y 0
  rw [(index0 t).2.2.2.1] at h
  exact h

/-- The column at which a block's column stands in the second array. -/
theorem lane_scaled (t : Fin cfg0.N) (y : (win0_3.xblock (cfg0.grid.coords t)).Idx) :
    ((((View.whole main_v1_1).slice (win0_3.rect t)).emb y : S24576x4096.Idx) 1).val = (y 1).val := by
  refine win0_3.rect_emb_val_of_index_zero t 1 ?_ y
  rw [(index0 t).2.2.2.1]
  rfl

/-- The row at which a block's row stands in the third array. -/
theorem row_scale (t : Fin cfg0.N) (y : (win0_4.xblock (cfg0.grid.coords t)).Idx) :
    ((((View.whole main_v1_2).slice (win0_4.rect t)).emb y : S24576x1.Idx) 0).val = t.val * 512 + (y 0).val := by
  have h := win0_4.rect_emb_val t y 0
  rw [(index0 t).2.2.2.2] at h
  exact h

/-- The scaled block is the scaled norm, at the places where the block stands. -/
theorem block_scaled (c : Dev nD) (t : Fin cfg0.N) (y : S512x4096.Idx) (e : S24576x4096.Idx)
    (hr : (e 0).val = t.val * 512 + (y 0).val) (hl : (e 1).val = (y 1).val) :
    k0_pay4 (F := Ideal) (iblk0 V c 0 t) (iblk0 V c 1 t) y = scaled (V c main_arg0) (V c main_v0) e := by
  have he : ix2 (e 0) (y 1) = e := by
    funext a
    match a with
    | ⟨0, _⟩ => rfl
    | ⟨1, _⟩ => exact Fin.ext hl.symm
  have hn := block_normed V c t (y 0) (y 1) (e 0) hr
  have hq : k0_pay1 (F := Ideal) (iblk0 V c 0 t) (iblk0 V c 1 t) y = normed (V c main_arg0) (V c main_v0) e :=
    (congrArg (k0_pay1 (F := Ideal) (iblk0 V c 0 t) (iblk0 V c 1 t)) (ix2_eta y).symm).trans
      (hn.trans (congrArg (normed (V c main_arg0) (V c main_v0)) he))
  have hp := block_largest V c t (y 0) (e 0) hr
  unfold k0_pay4 scaled
  refine (scaled_at _ _ _).trans ?_
  generalize k0_pay1 (F := Ideal) (iblk0 V c 0 t) (iblk0 V c 1 t) = q at hq ⊢
  generalize k0_pay3 (F := Ideal) (iblk0 V c 0 t) (iblk0 V c 1 t) = p at hp ⊢
  generalize largest (V c main_arg0) (V c main_v0) = L at hp ⊢
  generalize normed (V c main_arg0) (V c main_v0) = N at hq ⊢
  exact congrArg₂ (fun u v : EReal => u * Ideal.div (Ideal.ofBits .f32 0x43E00000#32) v) hq hp

/-- The norm's second array. -/
theorem scaled_array (c : Dev nD) : (dat0 V c).arrAt 3 cfg0.N = scaled (V c main_arg0) (V c main_v0) := by
  refine (dat0 V c).arrAt_eq_of_covers 3 _ (by decide +kernel) fun t hf y => ?_
  blk_simp
  rw [after0_3]
  unfold out0_3
  frame_out
  exact block_scaled V c t y _ (row_scaled t y) (lane_scaled t y)

/-- The block of factors, read at an index. -/
theorem scale_at (p : FVec Ideal S512x1 .f32) (z : Ideal .f32) (y : S512x1.Idx) :
    mulf p (broadcast S512x1 z) y = p y * z := rfl

/-- The block of factors is the factors, at the places where the block stands. -/
theorem block_scale (c : Dev nD) (t : Fin cfg0.N) (y : S512x1.Idx) (e : S24576x1.Idx)
    (hr : (e 0).val = t.val * 512 + (y 0).val) :
    k0_pay5 (F := Ideal) (iblk0 V c 0 t) (iblk0 V c 1 t) y = scale (V c main_arg0) (V c main_v0) e := by
  have hy : ix2 (y 0) 0 = y := by
    funext a
    match a with
    | ⟨0, _⟩ => rfl
    | ⟨1, _⟩ => exact Fin.ext (Nat.lt_one_iff.mp (y 1).isLt).symm
  have hb : k0_pay3 (F := Ideal) (iblk0 V c 0 t) (iblk0 V c 1 t) y = largest (V c main_arg0) (V c main_v0) (e 0) :=
    (congrArg (k0_pay3 (F := Ideal) (iblk0 V c 0 t) (iblk0 V c 1 t)) hy.symm).trans (block_largest V c t (y 0) (e 0) hr)
  unfold k0_pay5 scale
  generalize k0_pay3 (F := Ideal) (iblk0 V c 0 t) (iblk0 V c 1 t) = p at hb ⊢
  generalize largest (V c main_arg0) (V c main_v0) = L at hb ⊢
  exact (scale_at _ _ _).trans (congrArg (fun u : EReal => u * (Named.named κ "inv_f8_max" 0x3B124925#32 : Ideal .f32)) hb)

/-- The norm's third array. -/
theorem scale_array (c : Dev nD) : (dat0 V c).arrAt 4 cfg0.N = scale (V c main_arg0) (V c main_v0) := by
  refine (dat0 V c).arrAt_eq_of_covers 4 _ (by decide +kernel) fun t hf y => ?_
  blk_simp
  rw [after0_4]
  unfold out0_4
  frame_out
  exact block_scale V c t y _ (row_scale t y)

end Cert.Mm.Project

end
-- ==== Proof.Mm.ProjectGate.lean ====
module

public import proofs.«01_k».proof.Proof.Gen.ProjectIdeal.Frame
public import Idealize.ShloMosaic.Lib.Pipeline.ValueKit

@[expose] public section

set_option maxRecDepth 16384

noncomputable section

namespace Cert.Mm.Project

open Cert.ProjectIdeal Cert.ProjectIdeal.Gen Idealize.ShloMosaic Idealize.ShloMosaic.TcCoe Idealize.SL.Sem

variable (V : (c : Dev nD) → (b : Ref sig .tc) → Buf (Elt Ideal) ((c : Thread nD τ).loc b))

/-- The gates: the sigmoid of the scaled operands' product, the scales undone. -/
def gated (a : Vec Ideal S24576x4096 .fp8e4m3) (w : Vec Ideal S4096x12288 .fp8e4m3) (ws : Vec Ideal S1x12288 .f32)
    (hs : Vec Ideal S24576x1 .f32) : Vec Ideal S24576x12288 .bf16 := fun i =>
  Ideal.div (Ideal.ofBits .f32 0x3F800000#32) (Ideal.ofBits .f32 0x3F800000#32 + Ideal.exp (Ideal.ofBits .f32 0x00000000#32
    - (∑ k : Fin 4096, a (ix2 (i 0) k : S24576x4096.Idx) * w (ix2 k (i 1) : S4096x12288.Idx))
      * hs (ix2 (i 0) 0 : S24576x1.Idx) * ws (ix2 0 (i 1) : S1x12288.Idx)))

/-- The scale of a column of the gates' weights. -/
def columnScale (w : Vec Ideal S4096x22912 .f32) (n : Fin 12288) : EReal :=
  max (Finset.fold max (Ideal.ofBits .f32 0xFF800000#32) (fun k : Fin 4096 =>
    max (w (ix2 k (⟨10624 + n.val, by omega⟩ : Fin 22912) : S4096x22912.Idx))
      (-w (ix2 k (⟨10624 + n.val, by omega⟩ : Fin 22912) : S4096x22912.Idx))) Finset.univ)
    (Ideal.ofBits .f32 0x0DA24260#32) * Ideal.ofBits .f32 0x3B124925#32

/-- Where the blocks of the gates stand. -/
theorem index5 : ∀ t : Fin cfg5.N, win5_0.index t = ![t.val / 12, 0] ∧ win5_1.index t = ![0, t.val % 12]
    ∧ win5_2.index t = ![0, t.val % 12] ∧ win5_3.index t = ![t.val / 12, 0]
    ∧ win5_4.index t = ![t.val / 12, t.val % 12] :=
  (by decide +kernel : ∀ t : Fin grid5.N, _)

/-- The gates' array. -/
theorem gated_array (c : Dev nD) :
    (dat5 V c).arrAt 4 cfg5.N = gated (V c main_v1_1) (V c main_v14) (V c main_v23) (V c main_v1_2) := by
  refine (dat5 V c).arrAt_eq_of_covers 4 _ (by decide +kernel) fun t hf y => ?_
  blk_simp
  rw [after5_4]
  unfold out5_4
  frame_out
  pointwise [k5_pay1, gated]
  blk_point [iblk5, index5 t]

end Cert.Mm.Project

end
-- ==== Proof.Mm.ProjectRun.lean ====
module

public import proofs.«01_k».proof.Proof.Mm.ProjectNorm
public import proofs.«01_k».proof.Proof.Mm.Project
public import proofs.«01_k».proof.Proof.Mm.ProjectGate
public import Idealize.ShloMosaic.Adequacy
public import Idealize.ShloMosaic.Init
public import Idealize.ShloMosaic.Lib.Claim

@[expose] public section

set_option maxRecDepth 16384

noncomputable section

namespace Cert.Mm.Project

open Cert.ProjectIdeal Cert.ProjectIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.isDefEq.respectTransparency.types false in
/-- The run, with every array of the device memory at the end. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

variable (m : (ℓ : Loc nD τ sig) → Buf (Elt Ideal) ℓ) (ρ : Dev nD → PrngReg)

/-- The norm's weights at the entry of its call: the argument as one row. -/
theorem weights_norm (c : Dev nD) (k : Fin 4096) : (V1 m ρ c main_v0 : Vec Ideal S1x4096 .f32) (ix2 0 k)
    = (m ((c : Thread nD τ).loc main_arg1) : Vec Ideal S4096 .f32) (ix1 k) := by
  unfold_abbrev_sides
  after_results
  pointwise

/-- What the norm's call leaves first. -/
theorem normed_eq (c : Dev nD) : W2 m ρ c (Proc.devRef .tc main_v1_0)
    = normed (m ((c : Thread nD τ).loc main_arg0)) (V1 m ρ c main_v0) := by
  refine (W2_arr m ρ c 2).trans ((normed_array (V1 m ρ) c).trans ?_)
  show normed (W1 m ρ c (Proc.devRef .tc main_arg0)) _ = _
  rw [W1_args m ρ c main_arg0 (by simp)]

/-- What the norm's call leaves second. -/
theorem scaled_eq (c : Dev nD) : W2 m ρ c (Proc.devRef .tc main_v1_1)
    = scaled (m ((c : Thread nD τ).loc main_arg0)) (V1 m ρ c main_v0) := by
  refine (W2_arr m ρ c 3).trans ((scaled_array (V1 m ρ) c).trans ?_)
  show scaled (W1 m ρ c (Proc.devRef .tc main_arg0)) _ = _
  rw [W1_args m ρ c main_arg0 (by simp)]

/-- What the norm's call leaves third. -/
theorem scale_eq (c : Dev nD) : W2 m ρ c (Proc.devRef .tc main_v1_2)
    = scale (m ((c : Thread nD τ).loc main_arg0)) (V1 m ρ c main_v0) := by
  refine (W2_arr m ρ c 4).trans ((scale_array (V1 m ρ) c).trans ?_)
  show scale (W1 m ρ c (Proc.devRef .tc main_arg0)) _ = _
  rw [W1_args m ρ c main_arg0 (by simp)]

/-- The projections' weights before the gates' columns, after the host's cast. -/
theorem weights_cast (c : Dev nD) (k : Fin 4096) (n : Fin 10624) :
    (W3 m ρ c (Proc.devRef .tc main_v3) : Vec Ideal S4096x10624 .bf16) (ix2 k n)
      = (m ((c : Thread nD τ).loc main_arg2) : Vec Ideal S4096x22912 .f32) (ix2 k (⟨n.val, by omega⟩ : Fin 22912)) := by
  refine Eq.trans (b := (W2 m ρ c (Proc.devRef .tc main_arg2) : Vec Ideal S4096x22912 .f32)
    (ix2 k (⟨n.val, by omega⟩ : Fin 22912))) ?_ (congrFun (W2_args m ρ c main_arg2 (by simp)) _)
  unfold_abbrev_sides
  after_results
  pointwise

/-- The first projection's weights. -/
theorem weights_a (c : Dev nD) (k : Fin 4096) (n : Fin 1024) :
    (V3 m ρ c main_v15 : Vec Ideal S4096x1024 .bf16) (ix2 k n)
      = (m ((c : Thread nD τ).loc main_arg2) : Vec Ideal S4096x22912 .f32) (ix2 k (⟨n.val, by omega⟩ : Fin 22912)) := by
  refine Eq.trans (b := (W2 m ρ c (Proc.devRef .tc main_arg2) : Vec Ideal S4096x22912 .f32)
    (ix2 k (⟨n.val, by omega⟩ : Fin 22912))) ?_ (congrFun (W2_args m ρ c main_arg2 (by simp)) _)
  unfold_abbrev_sides
  after_results
  pointwise

/-- The second projection's weights. -/
theorem weights_b (c : Dev nD) (k : Fin 4096) (n : Fin 6144) :
    (V5 m ρ c main_v17 : Vec Ideal S4096x6144 .bf16) (ix2 k n)
      = (m ((c : Thread nD τ).loc main_arg2) : Vec Ideal S4096x22912 .f32)
        (ix2 k (⟨1024 + n.val, by omega⟩ : Fin 22912)) := by
  refine Eq.trans (b := (W4 m ρ c (Proc.devRef .tc main_v3) : Vec Ideal S4096x10624 .bf16)
    (ix2 k (⟨1024 + n.val, by omega⟩ : Fin 10624))) ?_ ?_
  · unfold_abbrev_sides
    after_results
    pointwise
  · rw [W4_of m ρ c main_v3 (by decide)]
    exact weights_cast m ρ c k _

/-- The third projection's weights. -/
theorem weights_lo (c : Dev nD) (k : Fin 4096) (n : Fin 384) :
    (V7 m ρ c main_v19 : Vec Ideal S4096x384 .bf16) (ix2 k n)
      = (m ((c : Thread nD τ).loc main_arg2) : Vec Ideal S4096x22912 .f32)
        (ix2 k (⟨7168 + n.val, by omega⟩ : Fin 22912)) := by
  refine Eq.trans (b := (W6 m ρ c (Proc.devRef .tc main_v3) : Vec Ideal S4096x10624 .bf16)
    (ix2 k (⟨7168 + n.val, by omega⟩ : Fin 10624))) ?_ ?_
  · unfold_abbrev_sides
    after_results
    pointwise
  · rw [W6_of m ρ c main_v3 (by decide), W5_of m ρ c main_v3 (by decide), W4_of m ρ c main_v3 (by decide)]
    exact weights_cast m ρ c k _

/-- The fourth projection's weights. -/
theorem weights_c (c : Dev nD) (k : Fin 4096) (n : Fin 3072) :
    (V9 m ρ c main_v21 : Vec Ideal S4096x3072 .bf16) (ix2 k n)
      = (m ((c : Thread nD τ).loc main_arg2) : Vec Ideal S4096x22912 .f32)
        (ix2 k (⟨7552 + n.val, by omega⟩ : Fin 22912)) := by
  refine Eq.trans (b := (W8 m ρ c (Proc.devRef .tc main_v3) : Vec Ideal S4096x10624 .bf16)
    (ix2 k (⟨7552 + n.val, by omega⟩ : Fin 10624))) ?_ ?_
  · unfold_abbrev_sides
    after_results
    pointwise
  · rw [W8_of m ρ c main_v3 (by decide), W7_of m ρ c main_v3 (by decide), W6_of m ρ c main_v3 (by decide),
      W5_of m ρ c main_v3 (by decide), W4_of m ρ c main_v3 (by decide)]
    exact weights_cast m ρ c k _

/-- The largest of each column. -/
theorem column_largest (y : FVec Ideal S4096x12288 .f32) (n : Fin 12288) :
    Host.reduce FloatOps.maximumf y (constant S_ .f32 0xFF800000#32) reducesTo_S4096x12288_S12288_d0 h_S_ (ix1 n)
    = Finset.fold max (Ideal.ofBits .f32 0xFF800000#32) (fun k : Fin 4096 => y (ix2 k n)) Finset.univ := by
  have h : S4096x12288.Reduces [0] S12288 := by decide
  rw [Host.reduce_eq_fold, Shape.ReducesTo.drop_eq_drop _ h]
  refine (h.fold_filter_drop_single _ _ y (ix1 n)).trans ?_
  refine Finset.fold_congr fun k _ => congrArg y (funext fun a => ?_)
  match a with
  | ⟨0, _⟩ => rfl
  | ⟨1, _⟩ => rfl

/-- A column of the gates' weights, in absolute value. -/
theorem gates_absolute (w : FVec Ideal S4096x22912 .f32) (k : Fin 4096) (n : Fin 12288) :
    Host.absf (extractStridedSlice S4096x12288 ![0, 10624] w slices_S4096x22912_S4096x12288_0_10624) (ix2 k n)
    = max (w (ix2 k (⟨10624 + n.val, by omega⟩ : Fin 22912))) (-w (ix2 k (⟨10624 + n.val, by omega⟩ : Fin 22912))) := by
  pointwise
  rfl

/-- A constant product of a bounded vector, read at an index. -/
theorem bounded_at (y : FVec Ideal S12288 .f32) (n : Fin 12288) :
    mulf (maximumf y (broadcastInDim S12288 ![] bcast_S_S12288 (constant S_ .f32 0x0DA24260#32)))
      (broadcastInDim S12288 ![] bcast_S_S12288 (constant S_ .f32 0x3B124925#32)) (ix1 n)
    = max (y (ix1 n)) (Ideal.ofBits .f32 0x0DA24260#32) * Ideal.ofBits .f32 0x3B124925#32 := by
  pointwise

/-- The gates' weights over a row of scales, read at an index. -/
theorem over_scales (w : FVec Ideal S4096x22912 .f32) (s : FVec Ideal S12288 .f32) (k : Fin 4096) (n : Fin 12288) :
    Host.convertf .fp8e4m3 (Host.divf (extractStridedSlice S4096x12288 ![0, 10624] w slices_S4096x22912_S4096x12288_0_10624)
      (broadcastInDim S4096x12288 ![0, 1] bcast_S1x12288_S4096x12288_0_1
        (broadcastInDim S1x12288 ![1] bcast_S12288_S1x12288_1 s))) (ix2 k n)
    = Ideal.div (w (ix2 k (⟨10624 + n.val, by omega⟩ : Fin 22912))) (s (ix1 n)) := by
  pointwise

/-- The scales of the gates' weights, as the host finds them. -/
def scalesOf (w : FVec Ideal S4096x22912 .f32) : FVec Ideal S12288 .f32 :=
  mulf (maximumf (Host.reduce FloatOps.maximumf
      (Host.absf (extractStridedSlice S4096x12288 ![0, 10624] w slices_S4096x22912_S4096x12288_0_10624))
      (constant S_ .f32 0xFF800000#32) reducesTo_S4096x12288_S12288_d0 h_S_)
      (broadcastInDim S12288 ![] bcast_S_S12288 (constant S_ .f32 0x0DA24260#32)))
    (broadcastInDim S12288 ![] bcast_S_S12288 (constant S_ .f32 0x3B124925#32))

/-- Each is its column's. -/
theorem scalesOf_apply (w : FVec Ideal S4096x22912 .f32) (n : Fin 12288) : scalesOf w (ix1 n) = columnScale w n := by
  unfold scalesOf columnScale
  refine (bounded_at _ n).trans ?_
  rw [column_largest, Finset.fold_congr fun k _ => gates_absolute w k n]

/-- The scales the host finds. -/
theorem column_scales (c : Dev nD) (n : Fin 12288) :
    (W3 m ρ c (Proc.devRef .tc main_v10) : Vec Ideal S12288 .f32) (ix1 n)
      = columnScale (m ((c : Thread nD τ).loc main_arg2)) n := by
  refine Eq.trans (b := columnScale (W2 m ρ c (Proc.devRef .tc main_arg2)) n) ?_
    (congrArg (fun w => columnScale w n) (W2_args m ρ c main_arg2 (by simp)))
  unfold_abbrev_sides
  after_results
  exact scalesOf_apply _ n

/-- The gates' weights over their scales. -/
theorem weights_gates (c : Dev nD) (k : Fin 4096) (n : Fin 12288) :
    (W3 m ρ c (Proc.devRef .tc main_v14) : Vec Ideal S4096x12288 .fp8e4m3) (ix2 k n)
      = Ideal.div ((m ((c : Thread nD τ).loc main_arg2) : Vec Ideal S4096x22912 .f32)
        (ix2 k (⟨10624 + n.val, by omega⟩ : Fin 22912))) (columnScale (m ((c : Thread nD τ).loc main_arg2)) n) := by
  refine Eq.trans (b := Ideal.div ((W2 m ρ c (Proc.devRef .tc main_arg2) : Vec Ideal S4096x22912 .f32)
    (ix2 k (⟨10624 + n.val, by omega⟩ : Fin 22912))) (columnScale (W2 m ρ c (Proc.devRef .tc main_arg2)) n)) ?_ ?_
  · unfold_abbrev_sides
    after_results
    refine (over_scales _ (scalesOf _) k n).trans ?_
    rw [scalesOf_apply]
  · rw [W2_args m ρ c main_arg2 (by simp)]

/-- The scales as the gates' call reads them. -/
theorem scales_row (c : Dev nD) (n : Fin 12288) :
    (V11 m ρ c main_v23 : Vec Ideal S1x12288 .f32) (ix2 0 n) = columnScale (m ((c : Thread nD τ).loc main_arg2)) n := by
  refine Eq.trans (b := (W10 m ρ c (Proc.devRef .tc main_v10) : Vec Ideal S12288 .f32) (ix1 n)) ?_ ?_
  · unfold_abbrev_sides
    after_results
    pointwise
  · rw [W10_of m ρ c main_v10 (by decide), W9_of m ρ c main_v10 (by decide), W8_of m ρ c main_v10 (by decide),
      W7_of m ρ c main_v10 (by decide), W6_of m ρ c main_v10 (by decide), W5_of m ρ c main_v10 (by decide),
      W4_of m ρ c main_v10 (by decide)]
    exact column_scales m ρ c n

/-- The norm at the entry of the first projection. -/
theorem normed_1 (c : Dev nD) : V3 m ρ c main_v1_0 = normed (m ((c : Thread nD τ).loc main_arg0)) (V1 m ρ c main_v0) :=
  (W3_of m ρ c main_v1_0 (by decide)).trans (normed_eq m ρ c)

/-- The norm at the entry of the second projection. -/
theorem normed_2 (c : Dev nD) : V5 m ρ c main_v1_0 = normed (m ((c : Thread nD τ).loc main_arg0)) (V1 m ρ c main_v0) :=
  ((W5_of m ρ c main_v1_0 (by decide)).trans (W4_of m ρ c main_v1_0 (by decide))).trans (normed_1 m ρ c)

/-- The norm at the entry of the third projection. -/
theorem normed_3 (c : Dev nD) : V7 m ρ c main_v1_0 = normed (m ((c : Thread nD τ).loc main_arg0)) (V1 m ρ c main_v0) :=
  ((W7_of m ρ c main_v1_0 (by decide)).trans (W6_of m ρ c main_v1_0 (by decide))).trans (normed_2 m ρ c)

/-- The norm at the entry of the fourth projection. -/
theorem normed_4 (c : Dev nD) : V9 m ρ c main_v1_0 = normed (m ((c : Thread nD τ).loc main_arg0)) (V1 m ρ c main_v0) :=
  ((W9_of m ρ c main_v1_0 (by decide)).trans (W8_of m ρ c main_v1_0 (by decide))).trans (normed_3 m ρ c)

/-- An array that stands before the projections stands at the entry of the gates' call. -/
theorem kept (c : Dev nD) (r : Ref sig .tc)
    (h4 : ∀ w : Fin cfg1.W, Pipeline.arrRef spec1 w = r → (cfg1.win w).isOut = false) (h5 : r ∉ hostOps2_W)
    (h6 : ∀ w : Fin cfg2.W, Pipeline.arrRef spec2 w = r → (cfg2.win w).isOut = false) (h7 : r ∉ hostOps3_W)
    (h8 : ∀ w : Fin cfg3.W, Pipeline.arrRef spec3 w = r → (cfg3.win w).isOut = false) (h9 : r ∉ hostOps4_W)
    (h10 : ∀ w : Fin cfg4.W, Pipeline.arrRef spec4 w = r → (cfg4.win w).isOut = false) (h11 : r ∉ hostOps5_W) :
    V11 m ρ c r = W3 m ρ c (Proc.devRef .tc r) :=
  (W11_of m ρ c r h11).trans <| (W10_of m ρ c r h10).trans <| (W9_of m ρ c r h9).trans <| (W8_of m ρ c r h8).trans <|
    (W7_of m ρ c r h7).trans <| (W6_of m ρ c r h6).trans <| (W5_of m ρ c r h5).trans (W4_of m ρ c r h4)

/-- The first result at the end. -/
theorem end_a (c : Dev nD) : W12 m ρ c (Proc.devRef .tc main_v16)
    = projA (normed (m ((c : Thread nD τ).loc main_arg0)) (V1 m ρ c main_v0)) (V3 m ρ c main_v15) := by
  rw [W12_of m ρ c main_v16 (by decide), W11_of m ρ c main_v16 (by decide), W10_of m ρ c main_v16 (by decide),
    W9_of m ρ c main_v16 (by decide), W8_of m ρ c main_v16 (by decide), W7_of m ρ c main_v16 (by decide),
    W6_of m ρ c main_v16 (by decide), W5_of m ρ c main_v16 (by decide)]
  refine (W4_arr m ρ c 2).trans ((projA_array (V3 m ρ) c).trans ?_)
  rw [normed_1]

/-- The second result at the end. -/
theorem end_b (c : Dev nD) : W12 m ρ c (Proc.devRef .tc main_v18)
    = projB (normed (m ((c : Thread nD τ).loc main_arg0)) (V1 m ρ c main_v0)) (V5 m ρ c main_v17) := by
  rw [W12_of m ρ c main_v18 (by decide), W11_of m ρ c main_v18 (by decide), W10_of m ρ c main_v18 (by decide),
    W9_of m ρ c main_v18 (by decide), W8_of m ρ c main_v18 (by decide), W7_of m ρ c main_v18 (by decide)]
  refine (W6_arr m ρ c 2).trans ((projB_array (V5 m ρ) c).trans ?_)
  rw [normed_2]

/-- The third result at the end. -/
theorem end_lo (c : Dev nD) : W12 m ρ c (Proc.devRef .tc main_v20)
    = projLo (normed (m ((c : Thread nD τ).loc main_arg0)) (V1 m ρ c main_v0)) (V7 m ρ c main_v19) := by
  rw [W12_of m ρ c main_v20 (by decide), W11_of m ρ c main_v20 (by decide), W10_of m ρ c main_v20 (by decide),
    W9_of m ρ c main_v20 (by decide)]
  refine (W8_arr m ρ c 2).trans ((projLo_array (V7 m ρ) c).trans ?_)
  rw [normed_3]

/-- The fourth result at the end. -/
theorem end_c (c : Dev nD) : W12 m ρ c (Proc.devRef .tc main_v22)
    = projC (normed (m ((c : Thread nD τ).loc main_arg0)) (V1 m ρ c main_v0)) (V9 m ρ c main_v21) := by
  rw [W12_of m ρ c main_v22 (by decide), W11_of m ρ c main_v22 (by decide)]
  refine (W10_arr m ρ c 2).trans ((projC_array (V9 m ρ) c).trans ?_)
  rw [normed_4]

/-- The fifth result at the end. -/
theorem end_gates (c : Dev nD) : W12 m ρ c (Proc.devRef .tc main_v24)
    = gated (scaled (m ((c : Thread nD τ).loc main_arg0)) (V1 m ρ c main_v0)) (W3 m ρ c (Proc.devRef .tc main_v14))
      (V11 m ρ c main_v23) (scale (m ((c : Thread nD τ).loc main_arg0)) (V1 m ρ c main_v0)) := by
  refine (W12_arr m ρ c 4).trans ((gated_array (V11 m ρ) c).trans ?_)
  rw [kept m ρ c main_v1_1 (by decide) (by decide) (by decide) (by decide) (by decide) (by decide) (by decide) (by decide),
    kept m ρ c main_v14 (by decide) (by decide) (by decide) (by decide) (by decide) (by decide) (by decide) (by decide),
    kept m ρ c main_v1_2 (by decide) (by decide) (by decide) (by decide) (by decide) (by decide) (by decide) (by decide),
    W3_of m ρ c main_v1_1 (by decide), W3_of m ρ c main_v1_2 (by decide), scaled_eq, scale_eq]

end Cert.Mm.Project

end
-- ==== Proof.Mm.Gates.lean ====
module

public import proofs.«01_k».proof.Proof.Mm.Project
public import proofs.«01_k».proof.Proof.Mm.ProjectGate
public import proofs.«01_k».proof.Proof.Na.Softmax

@[expose] public section

set_option maxRecDepth 16384

noncomputable section

namespace Cert.Mm.Project

open Cert.ProjectIdeal Cert.ProjectIdeal.Gen Idealize.ShloMosaic Idealize.ShloMosaic.TcCoe Idealize.SL.Sem

/-- The square of an extended real is not negative. -/
theorem square_nonneg (x : EReal) : 0 ≤ x * x := by
  induction x with
  | bot => simp
  | top => simp
  | coe r => rw [← EReal.coe_mul]; exact EReal.coe_nonneg.2 (mul_self_nonneg r)

/-- An extended real whose square is below plus infinity is a real. -/
theorem real_of_square {x : EReal} (h : x * x < ⊤) : ∃ r : ℝ, x = r := by
  induction x with
  | bot => simp at h
  | top => simp at h
  | coe r => exact ⟨r, rfl⟩

/-- The norm's count of columns. -/
theorem count_eq : Ideal.ofBits .f32 0x45800000#32 = ((4096 : ℝ) : EReal) := by
  simp [Ideal.ofBits, Ideal.ieee, -EReal.coe_mul]; norm_num

/-- The largest number of the small format. -/
theorem f8max_eq : Ideal.ofBits .f32 0x43E00000#32 = ((448 : ℝ) : EReal) := by
  simp [Ideal.ofBits, Ideal.ieee, -EReal.coe_mul]; norm_num

/-- The norm's small addend is a positive real. -/
theorem small_pos : ∃ e : ℝ, 0 < e ∧ Ideal.ofBits .f32 0x358637BD#32 = (e : EReal) := by
  refine ⟨_, ?_, by simp [Ideal.ofBits, Ideal.ieee, -EReal.coe_mul]; rfl⟩
  norm_num

/-- The least scale is a positive real. -/
theorem tiny_pos : ∃ e : ℝ, 0 < e ∧ Ideal.ofBits .f32 0x0DA24260#32 = (e : EReal) := by
  refine ⟨_, ?_, by simp [Ideal.ofBits, Ideal.ieee, -EReal.coe_mul]; rfl⟩
  norm_num

/-- The scales' factor is a positive real. -/
theorem factor_pos : ∃ e : ℝ, 0 < e ∧ Ideal.ofBits .f32 0x3B124925#32 = (e : EReal) := by
  refine ⟨_, ?_, by simp [Ideal.ofBits, Ideal.ieee, -EReal.coe_mul]; rfl⟩
  norm_num

/-- A quotient of reals by a positive real. -/
theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- An entry of the norm is real under real weights, whatever the tokens. -/
theorem normed_real (x : Vec Ideal S24576x4096 .f32) (g : Vec Ideal S1x4096 .f32)
    (hg : ∀ k : Fin 4096, ∃ r : ℝ, g (ix2 0 k) = r) (r : Fin 24576) (k : Fin 4096) :
    ∃ a : ℝ, normed x g (ix2 r k) = a := by
  obtain ⟨b, hb⟩ := hg k
  obtain ⟨e, he, hE⟩ := small_pos
  have hsum : 0 ≤ ∑ j : Fin 4096, x (ix2 r j : S24576x4096.Idx) * x (ix2 r j : S24576x4096.Idx) :=
    Finset.sum_nonneg fun j _ => square_nonneg _
  have hle : x (ix2 r k : S24576x4096.Idx) * x (ix2 r k : S24576x4096.Idx)
      ≤ ∑ j : Fin 4096, x (ix2 r j : S24576x4096.Idx) * x (ix2 r j : S24576x4096.Idx) :=
    Finset.single_le_sum (f := fun j : Fin 4096 => x (ix2 r j : S24576x4096.Idx) * x (ix2 r j : S24576x4096.Idx))
      (fun j _ => square_nonneg _) (Finset.mem_univ k)
  have hn : normed x g (ix2 r k) = x (ix2 r k : S24576x4096.Idx) * Ideal.rsqrt (Ideal.div
      (∑ j : Fin 4096, x (ix2 r j : S24576x4096.Idx) * x (ix2 r j : S24576x4096.Idx))
      (Ideal.ofBits .f32 0x45800000#32) + Ideal.ofBits .f32 0x358637BD#32) * g (ix2 0 k : S1x4096.Idx) := rfl
  rw [hn, hb, hE, count_eq]
  generalize hS : (∑ j : Fin 4096, x (ix2 r j : S24576x4096.Idx) * x (ix2 r j : S24576x4096.Idx)) = S at hsum hle
  clear hS
  obtain ⟨s, hs'⟩ : ∃ s : EReal, s = S := ⟨S, rfl⟩
  rw [← hs'] at hsum hle ⊢
  clear hs' S
  induction s with
  | bot => exact absurd hsum (by simp)
  | top =>
    have h : Ideal.div ⊤ ((4096 : ℝ) : EReal) + (e : EReal) = ⊤ := by
      unfold Ideal.div
      rw [if_neg (by norm_num), ← EReal.coe_inv, EReal.top_mul_coe_of_pos (by norm_num), EReal.top_add_coe]
    rw [h]
    have h' : Ideal.rsqrt ⊤ = 0 := rfl
    exact ⟨0, by rw [h', mul_zero, zero_mul]; rfl⟩
  | coe s =>
    obtain ⟨a, ha⟩ := real_of_square (lt_of_le_of_lt hle (EReal.coe_lt_top s))
    have hs : 0 ≤ s := EReal.coe_nonneg.1 hsum
    have hp : 0 < s / 4096 + e := by positivity
    rw [ha, div_real _ _ (by norm_num), ← EReal.coe_add]
    refine ⟨a * (Real.sqrt (s / 4096 + e))⁻¹ * b, ?_⟩
    rw [EReal.coe_mul, EReal.coe_mul]
    congr 2
    show (if s / 4096 + e < 0 then ⊥ else if s / 4096 + e = 0 then ⊤ else _) = _
    rw [if_neg (not_lt.2 hp.le), if_neg hp.ne']

/-- The largest absolute value of reals, and at least a positive real, is a positive real. -/
theorem absolute_pos (f : Fin 4096 → EReal) (hf : ∀ k, ∃ r : ℝ, f k = r) : ∃ a : ℝ, 0 < a ∧
    max (Finset.fold max (Ideal.ofBits .f32 0xFF800000#32) (fun k => max (f k) (-f k)) Finset.univ)
      (Ideal.ofBits .f32 0x0DA24260#32) = a := by
  obtain ⟨e, he, hE⟩ := tiny_pos
  obtain ⟨M, hM⟩ := Cert.Na.top_real (fun k => max (f k) (-f k)) fun k => by
    obtain ⟨r, hr⟩ := hf k
    exact ⟨max r (-r), by rw [hr, ← EReal.coe_neg]; exact (EReal.coe_strictMono.monotone.map_max).symm⟩
  unfold Cert.Na.top at hM
  refine ⟨max M e, lt_max_of_lt_right he, ?_⟩
  rw [Cert.Na.ofBits_neg_inf, hM, hE]
  exact (EReal.coe_strictMono.monotone.map_max).symm

/-- The gates of the scaled operands are the sigmoid of the product of the unscaled ones. -/
theorem gated_eq (x : Vec Ideal S24576x4096 .f32) (g : Vec Ideal S1x4096 .f32) (w : Vec Ideal S4096x22912 .f32)
    (w' : Vec Ideal S4096x12288 .fp8e4m3) (ws : Vec Ideal S1x12288 .f32)
    (hg : ∀ k : Fin 4096, ∃ r : ℝ, g (ix2 0 k) = r)
    (hw : ∀ (k : Fin 4096) (n : Fin 12288), ∃ r : ℝ, w (ix2 k (⟨10624 + n.val, by omega⟩ : Fin 22912)) = r)
    (hw' : ∀ (k : Fin 4096) (n : Fin 12288), w' (ix2 k n)
      = Ideal.div (w (ix2 k (⟨10624 + n.val, by omega⟩ : Fin 22912))) (columnScale w n))
    (hs : ∀ n : Fin 12288, ws (ix2 0 n) = columnScale w n) (r : Fin 24576) (n : Fin 12288) :
    gated (scaled x g) w' ws (scale x g) (ix2 r n) = Ideal.div (Ideal.ofBits .f32 0x3F800000#32)
      (Ideal.ofBits .f32 0x3F800000#32 + Ideal.exp (-(∑ k : Fin 4096, normed x g (ix2 r k : S24576x4096.Idx)
        * w (ix2 k (⟨10624 + n.val, by omega⟩ : Fin 22912) : S4096x22912.Idx)))) := by
  choose y hy using normed_real x g hg r
  choose v hv using fun k => hw k n
  obtain ⟨A, hA, hA'⟩ := absolute_pos (fun k => normed x g (ix2 r k : S24576x4096.Idx)) (normed_real x g hg r)
  obtain ⟨B, hB, hB'⟩ := absolute_pos (fun k => w (ix2 k (⟨10624 + n.val, by omega⟩ : Fin 22912) : S4096x22912.Idx))
    (fun k => hw k n)
  obtain ⟨f, hf, hF⟩ := factor_pos
  have hC : columnScale w n = ((B * f : ℝ) : EReal) := by
    rw [EReal.coe_mul, ← hB', ← hF]
    rfl
  have hL : largest x g r = (A : EReal) := hA'
  have h0 : Ideal.ofBits .f32 0x00000000#32 = 0 := by simp [Ideal.ofBits, Ideal.ieee]
  have hκ : (Named.named κ "inv_f8_max" 0x3B124925#32 : Ideal .f32) = ((1 / 448 : ℝ) : EReal) := by
    rfl
  have e : (∑ k : Fin 4096, scaled x g (ix2 r k : S24576x4096.Idx) * w' (ix2 k n : S4096x12288.Idx))
      * scale x g (ix2 r 0 : S24576x1.Idx) * ws (ix2 0 n : S1x12288.Idx)
      = ∑ k : Fin 4096, normed x g (ix2 r k : S24576x4096.Idx)
        * w (ix2 k (⟨10624 + n.val, by omega⟩ : Fin 22912) : S4096x22912.Idx) := by
    have h1 : ∀ k : Fin 4096, scaled x g (ix2 r k : S24576x4096.Idx) * w' (ix2 k n : S4096x12288.Idx)
        = ((y k * (448 / A) * (v k / (B * f)) : ℝ) : EReal) := fun k => by
      show normed x g (ix2 r k : S24576x4096.Idx) * Ideal.div (Ideal.ofBits .f32 0x43E00000#32) (largest x g r) * _ = _
      rw [hw', hy, hL, hC, hv, f8max_eq, div_real _ _ hA, div_real _ _ (mul_pos hB hf), ← EReal.coe_mul, ← EReal.coe_mul]
    have h2 : ∀ k : Fin 4096, normed x g (ix2 r k : S24576x4096.Idx)
        * w (ix2 k (⟨10624 + n.val, by omega⟩ : Fin 22912) : S4096x22912.Idx) = ((y k * v k : ℝ) : EReal) := fun k => by
      rw [hy, hv, ← EReal.coe_mul]
    have h3 : scale x g (ix2 r 0 : S24576x1.Idx) = ((A * (1 / 448) : ℝ) : EReal) := by
      show largest x g r * (Named.named κ "inv_f8_max" 0x3B124925#32 : Ideal .f32) = _
      rw [hL, hκ, ← EReal.coe_mul]
    rw [Finset.sum_congr rfl fun k _ => h1 k, Finset.sum_congr rfl fun k _ => h2 k, Cert.Na.sum_real, Cert.Na.sum_real, h3,
      hs, hC, ← EReal.coe_mul, ← EReal.coe_mul]
    refine congrArg _ ?_
    rw [Finset.sum_mul, Finset.sum_mul]
    refine Finset.sum_congr rfl fun k _ => ?_
    field_simp
  have hz : ∀ z : EReal, (0 : EReal) - z = -z := fun z => by rw [sub_eq_add_neg, zero_add]
  show Ideal.div _ (_ + Ideal.exp (_ - (∑ k : Fin 4096, scaled x g (ix2 r k : S24576x4096.Idx) * w' (ix2 k n : S4096x12288.Idx))
      * scale x g (ix2 r 0 : S24576x1.Idx) * ws (ix2 0 n : S1x12288.Idx))) = _
  rw [e, h0, hz]

end Cert.Mm.Project

end
-- ==== Proof.Mm.ProjectReference.lean ====
module

public import proofs.«01_k».proof.Proof.Gen.ProjectReferenceIdeal.Read
public import proofs.«01_k».proof.Proof.Mm.Project

@[expose] public section

set_option maxRecDepth 16384

noncomputable section

namespace Cert.Mm.Project

open Cert.ProjectReferenceIdeal Cert.ProjectReferenceIdeal.Gen Cert.ProjectReferenceIdeal.Read Idealize.ShloMosaic
  Idealize.ShloMosaic.TcCoe Idealize.SL.Sem

variable (x0 : (⟨S24576x4096, .f32⟩ : BufTy).Contents (Elt Ideal)) (x1 : (⟨S4096, .f32⟩ : BufTy).Contents (Elt Ideal))
  (x2 : (⟨S4096x22912, .f32⟩ : BufTy).Contents (Elt Ideal))
  (g : Vec Ideal S1x4096 .f32) (hg : ∀ k : Fin 4096, g (ix2 0 k) = x1 (ix1 k))

include hg

/-- The reference's norm. -/
theorem reference_normed : val_main_v12 (F := Ideal) x0 x1 = normed x0 g := by
  funext i
  unfold val_main_v12 val_main_v11 val_main_v10 val_main_v9 val_main_v8 val_main_v7 val_main_v6 val_main_v5 val_main_v4
    val_main_v3 val_main_v2 val_main_v1 val_main_v0 val_main_cst val_main_cst_0 val_main_cst_1
  unfold normed
  pointwise [hg]

/-- The reference's first result. -/
theorem reference_a (w : Vec Ideal Cert.ProjectIdeal.S4096x1024 .bf16)
    (hw : ∀ (k : Fin 4096) (n : Fin 1024), w (ix2 k n) = x2 (ix2 k (⟨n.val, by omega⟩ : Fin 22912))) :
    val_main_v19 (F := Ideal) x0 x1 x2 = projA (normed x0 g) w := by
  funext i
  unfold val_main_v19 val_main_v14 val_main_v13
  rw [reference_normed x0 x1 g hg]
  unfold projA
  generalize normed x0 g = a
  pointwise [hw]

/-- The reference's second result. -/
theorem reference_b (w : Vec Ideal Cert.ProjectIdeal.S4096x6144 .bf16)
    (hw : ∀ (k : Fin 4096) (n : Fin 6144), w (ix2 k n) = x2 (ix2 k (⟨1024 + n.val, by omega⟩ : Fin 22912))) :
    val_main_v15 (F := Ideal) x0 x1 x2 = projB (normed x0 g) w := by
  funext i
  unfold val_main_v15 val_main_v13
  rw [reference_normed x0 x1 g hg]
  unfold projB
  generalize normed x0 g = a
  pointwise [hw]

/-- The reference's third result. -/
theorem reference_lo (w : Vec Ideal Cert.ProjectIdeal.S4096x384 .bf16)
    (hw : ∀ (k : Fin 4096) (n : Fin 384), w (ix2 k n) = x2 (ix2 k (⟨7168 + n.val, by omega⟩ : Fin 22912))) :
    val_main_v16 (F := Ideal) x0 x1 x2 = projLo (normed x0 g) w := by
  funext i
  unfold val_main_v16 val_main_v13
  rw [reference_normed x0 x1 g hg]
  unfold projLo
  generalize normed x0 g = a
  pointwise [hw]

/-- The reference's fourth result. -/
theorem reference_c (w : Vec Ideal Cert.ProjectIdeal.S4096x3072 .bf16)
    (hw : ∀ (k : Fin 4096) (n : Fin 3072), w (ix2 k n) = x2 (ix2 k (⟨7552 + n.val, by omega⟩ : Fin 22912))) :
    val_main_v20 (F := Ideal) x0 x1 x2 = projC (normed x0 g) w := by
  funext i
  unfold val_main_v20 val_main_v17 val_main_v13
  rw [reference_normed x0 x1 g hg]
  unfold projC
  generalize normed x0 g = a
  pointwise [hw]

/-- The reference's fifth result. -/
theorem reference_gates (r : Fin 24576) (n : Fin 12288) :
    val_main_v27 (F := Ideal) x0 x1 x2 (ix2 r n) = Ideal.div (Ideal.ofBits .f32 0x3F800000#32)
      (Ideal.ofBits .f32 0x3F800000#32 + Ideal.exp (-(∑ k : Fin 4096, normed x0 g (ix2 r k : S24576x4096.Idx)
        * x2 (ix2 k (⟨10624 + n.val, by omega⟩ : Fin 22912) : S4096x22912.Idx)))) := by
  unfold val_main_v27 val_main_v26 val_main_v25 val_main_v24 val_main_v23 val_main_v22 val_main_v21 val_main_v18
    val_main_v13 val_main_cst_2 val_main_cst_3
  rw [reference_normed x0 x1 g hg]
  generalize normed x0 g = a
  pointwise

end Cert.Mm.Project

end
-- ==== Proof.Mm.ProjectSame.lean ====
module

public import proofs.«01_k».proof.Defs
public import proofs.«01_k».proof.Proof.Na.Finite
public import proofs.«01_k».proof.Proof.Mm.ProjectRun
public import proofs.«01_k».proof.Proof.Mm.Gates
public import proofs.«01_k».proof.Proof.Mm.ProjectReference

@[expose] public section

set_option maxRecDepth 16384

noncomputable section

namespace Cert.Mm.Project

open Idealize.ShloMosaic Idealize.ShloMosaic.TcCoe Idealize.SL.Sem

/-- The reference runs, leaves its arguments unchanged and every counter at zero (it declares no semaphore). -/
theorem reference_frame : Cert.quiescent_ProjectReferenceIdeal := fun m ρ _ =>
  (θ_run Cert.ProjectReferenceIdeal.defs _ _).mono
    (fun _ h => ⟨fun c => (h c).2.2.2.2.2, sem_eq_zero_of_no_sems (by decide) _⟩)
    (Cert.ProjectReferenceIdeal.Value.run (F := Ideal) m ρ)

/-- The side conditions of the precondition's operations. -/
theorem gates_facts : Cert.Pre_gates_finite.Facts where
  bcast_S_S4096 := by decide +kernel
  slices_S4096x22912_S4096x12288_0_10624 := by decide +kernel
  bcast_S_S4096x12288 := by decide +kernel

section Precondition

variable [Cert.Pre_gates_finite.Facts] (x0 : Vec Ideal Cert.ProjectIdeal.S24576x4096 .f32)
  (x1 : Vec Ideal Cert.ProjectIdeal.S4096 .f32) (x2 : Vec Ideal Cert.ProjectIdeal.S4096x22912 .f32)

/-- The precondition makes the norm's weights real. -/
theorem weights_real (h : (Cert.Pre_gates_finite.fn (F := Ideal) x0 x1 x2).1 = fun _ => 1#1) (k : Fin 4096) :
    ∃ r : ℝ, x1 (ix1 k) = r := by
  have h' := congrFun h (ix1 k)
  unfold Cert.Pre_gates_finite.fn at h'
  refine Cert.Na.real_of_lt (Eq.trans ?_ h')
  pointwise
  rfl

/-- The precondition makes the gates' weights real. -/
theorem gates_real (h : (Cert.Pre_gates_finite.fn (F := Ideal) x0 x1 x2).2 = fun _ => 1#1)
    (k : Fin 4096) (n : Fin 12288) : ∃ r : ℝ, x2 (ix2 k (⟨10624 + n.val, by omega⟩ : Fin 22912)) = r := by
  have h' := congrFun h (ix2 k n)
  unfold Cert.Pre_gates_finite.fn at h'
  refine Cert.Na.real_of_lt (Eq.trans ?_ h')
  pointwise
  rfl

end Precondition

open Cert.ProjectIdeal Cert.ProjectIdeal.Gen in
/-- The kernel's run: each result, and the arguments unchanged. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = projA (normed (m ((c : Thread nD τ).loc main_arg0)) (V1 m ρ c main_v0)) (V3 m ρ c main_v15)
      ∧ r.2.mem ((c.tc : Thread nD τ).loc main_v18)
        = projB (normed (m ((c : Thread nD τ).loc main_arg0)) (V1 m ρ c main_v0)) (V5 m ρ c main_v17)
      ∧ r.2.mem ((c.tc : Thread nD τ).loc main_v20)
        = projLo (normed (m ((c : Thread nD τ).loc main_arg0)) (V1 m ρ c main_v0)) (V7 m ρ c main_v19)
      ∧ r.2.mem ((c.tc : Thread nD τ).loc main_v22)
        = projC (normed (m ((c : Thread nD τ).loc main_arg0)) (V1 m ρ c main_v0)) (V9 m ρ c main_v21)
      ∧ r.2.mem ((c.tc : Thread nD τ).loc main_v24)
        = gated (scaled (m ((c : Thread nD τ).loc main_arg0)) (V1 m ρ c main_v0)) (W3 m ρ c (Proc.devRef .tc main_v14))
          (V11 m ρ c main_v23) (scale (m ((c : Thread nD τ).loc main_arg0)) (V1 m ρ c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c _ (mem_uc main_v16 (by decide))).trans (end_a m ρ c),
        (h c _ (mem_uc main_v18 (by decide))).trans (end_b m ρ c),
        (h c _ (mem_uc main_v20 (by decide))).trans (end_lo m ρ c),
        (h c _ (mem_uc main_v22 (by decide))).trans (end_c m ρ c),
        (h c _ (mem_uc main_v24 (by decide))).trans (end_gates m ρ c),
        (h c _ (mem_uc main_arg0 (by decide))).trans (W12_main_arg0 m ρ c),
        (h c _ (mem_uc main_arg1 (by decide))).trans (W12_main_arg1 m ρ c),
        (h c _ (mem_uc main_arg2 (by decide))).trans (W12_main_arg2 m ρ c)⟩)
    (run_all m ρ)

open Cert.ProjectIdeal Cert.ProjectIdeal.Gen in
/-- Under the precondition the kernel's gates are the reference's. -/
theorem same_gates [Cert.Pre_gates_finite.Facts] (m : (ℓ : Loc nD τ sig) → Buf (Elt Ideal) ℓ) (ρ : Dev nD → PrngReg)
    (c : Dev nD)
    (h1 : (Cert.Pre_gates_finite.fn (F := Ideal) (m ((c : Thread nD τ).loc main_arg0)) (m ((c : Thread nD τ).loc main_arg1))
      (m ((c : Thread nD τ).loc main_arg2))).1 = fun _ => 1#1)
    (h2 : (Cert.Pre_gates_finite.fn (F := Ideal) (m ((c : Thread nD τ).loc main_arg0)) (m ((c : Thread nD τ).loc main_arg1))
      (m ((c : Thread nD τ).loc main_arg2))).2 = fun _ => 1#1) :
    Cert.ProjectReferenceIdeal.Read.val_main_v27 (F := Ideal) (m ((c : Thread nD τ).loc main_arg0))
      (m ((c : Thread nD τ).loc main_arg1)) (m ((c : Thread nD τ).loc main_arg2))
      = gated (scaled (m ((c : Thread nD τ).loc main_arg0)) (V1 m ρ c main_v0)) (W3 m ρ c (Proc.devRef .tc main_v14))
          (V11 m ρ c main_v23) (scale (m ((c : Thread nD τ).loc main_arg0)) (V1 m ρ c main_v0)) := by
  funext i
  obtain ⟨r, n, rfl⟩ : ∃ (r : Fin 24576) (n : Fin 12288), i = (ix2 r n : S24576x12288.Idx) := ⟨i 0, i 1, (ix2_eta i).symm⟩
  refine (reference_gates _ _ _ _ (weights_norm m ρ c) r n).trans (Eq.symm ?_)
  refine gated_eq _ _ (m ((c : Thread nD τ).loc main_arg2)) _ _ (fun k => ?_) (gates_real _ _ _ h2)
    (weights_gates m ρ c) (scales_row m ρ c) r n
  obtain ⟨a, ha⟩ := weights_real _ _ _ h1 k
  exact ⟨a, (weights_norm m ρ c k).trans ha⟩

/-- Kernel and reference leave the same arrays. -/
theorem same_result :
    Cert.algebraic_ProjectIdeal_ProjectReferenceIdeal_pre_gates_finite (hPre_gates_finite := gates_facts) := by
  intro m ρ m' ρ' hpre hargs
  have := gates_facts
  refine ⟨_, _, _, _, _, run_results m ρ, ?_⟩
  refine (θ_run Cert.ProjectReferenceIdeal.defs _ _).mono
    (fun _ h c => ⟨(h c).1.trans ?_, (h c).2.1.trans ?_, (h c).2.2.1.trans ?_, (h c).2.2.2.1.trans ?_,
      (h c).2.2.2.2.1.trans ?_, (h c).2.2.2.2.2⟩)
    (Cert.ProjectReferenceIdeal.Value.run (F := Ideal) m' ρ')
  · refine (Cert.ProjectReferenceIdeal.Read.val_main_v19_eq _ _ _).trans ?_
    rw [(hargs c).1, (hargs c).2.1, (hargs c).2.2]
    exact reference_a _ _ _ _ (weights_norm m ρ c) _ (weights_a m ρ c)
  · refine (Cert.ProjectReferenceIdeal.Read.val_main_v15_eq _ _ _).trans ?_
    rw [(hargs c).1, (hargs c).2.1, (hargs c).2.2]
    exact reference_b _ _ _ _ (weights_norm m ρ c) _ (weights_b m ρ c)
  · refine (Cert.ProjectReferenceIdeal.Read.val_main_v16_eq _ _ _).trans ?_
    rw [(hargs c).1, (hargs c).2.1, (hargs c).2.2]
    exact reference_lo _ _ _ _ (weights_norm m ρ c) _ (weights_lo m ρ c)
  · refine (Cert.ProjectReferenceIdeal.Read.val_main_v20_eq _ _ _).trans ?_
    rw [(hargs c).1, (hargs c).2.1, (hargs c).2.2]
    exact reference_c _ _ _ _ (weights_norm m ρ c) _ (weights_c m ρ c)
  · refine (Cert.ProjectReferenceIdeal.Read.val_main_v27_eq _ _ _).trans ?_
    rw [(hargs c).1, (hargs c).2.1, (hargs c).2.2]
    exact same_gates m ρ c (hpre c).1 (hpre c).2

end Cert.Mm.Project

end
-- ==== Proof.Mm.Merge.lean ====
module

public import proofs.«01_k».proof.Proof.Gen.MergeIdeal.Frame
public import Idealize.ShloMosaic.Lib.Pipeline.ValueKit

@[expose] public section

set_option maxRecDepth 16384

noncomputable section

namespace Cert.Mm.Merge

open Cert.MergeIdeal Cert.MergeIdeal.Gen Idealize.ShloMosaic Idealize.ShloMosaic.TcCoe Idealize.SL.Sem

variable (V : (c : Dev nD) → (b : Ref sig .tc) → Buf (Elt Ideal) ((c : Thread nD τ).loc b))

/-- The output projection on top of the residual. -/
def added (x : Vec Ideal S24576x4096 .f32) (a : Vec Ideal S24576x4096 .bf16) (w : Vec Ideal S4096x4096 .bf16) :
    Vec Ideal S24576x4096 .f32 := fun i =>
  x i + ∑ k : Fin 4096, a (ix2 (i 0) k : S24576x4096.Idx) * w (ix2 k (i 1) : S4096x4096.Idx)

/-- Where the blocks of the output projection stand. -/
theorem index1 : ∀ t : Fin cfg1.N, win1_0.index t = ![t.val / 4, 0] ∧ win1_1.index t = ![0, t.val % 4]
    ∧ win1_2.index t = ![t.val / 4, t.val % 4] ∧ win1_3.index t = ![t.val / 4, t.val % 4] :=
  (by decide +kernel : ∀ t : Fin grid1.N, _)

/-- The output projection's array. -/
theorem added_array (c : Dev nD) :
    (dat1 V c).arrAt 3 cfg1.N = added (V c main_arg0) (V c main_v3) (V c main_v4) := by
  refine (dat1 V c).arrAt_eq_of_covers 3 _ (by decide +kernel) fun t hf y => ?_
  blk_simp
  rw [after1_3]
  unfold out1_3
  frame_out
  pointwise [k1_pay1, added]
  blk_point [iblk1, index1 t]

/-- The three branches' projections, each under its gate. -/
def merged (ya : Vec Ideal S24576x1024 .bf16) (yb : Vec Ideal S24576x2048 .bf16) (yc : Vec Ideal S24576x1024 .bf16)
    (gates : Vec Ideal S24576x12288 .bf16) (wa : Vec Ideal S1024x4096 .bf16) (wb : Vec Ideal S2048x4096 .bf16)
    (wc : Vec Ideal S1024x4096 .bf16) : Vec Ideal S24576x4096 .bf16 := fun i =>
  have h1 : (i 1).val < 4096 := (i 1).isLt
  gates (ix2 (i 0) (⟨(i 1).val, by omega⟩ : Fin 12288) : S24576x12288.Idx)
      * (∑ k : Fin 1024, ya (ix2 (i 0) k : S24576x1024.Idx) * wa (ix2 k (i 1) : S1024x4096.Idx))
    + gates (ix2 (i 0) (⟨4096 + (i 1).val, by omega⟩ : Fin 12288) : S24576x12288.Idx)
      * (∑ k : Fin 2048, yb (ix2 (i 0) k : S24576x2048.Idx) * wb (ix2 k (i 1) : S2048x4096.Idx))
    + gates (ix2 (i 0) (⟨8192 + (i 1).val, by omega⟩ : Fin 12288) : S24576x12288.Idx)
      * (∑ k : Fin 1024, yc (ix2 (i 0) k : S24576x1024.Idx) * wc (ix2 k (i 1) : S1024x4096.Idx))

/-- Where the blocks of the gated merge stand. -/
theorem index0 : ∀ t : Fin cfg0.N, win0_0.index t = ![t.val / 4, 0] ∧ win0_1.index t = ![t.val / 4, 0]
    ∧ win0_2.index t = ![t.val / 4, 0] ∧ win0_3.index t = ![0, t.val % 4] ∧ win0_4.index t = ![0, t.val % 4]
    ∧ win0_5.index t = ![0, t.val % 4] ∧ win0_6.index t = ![t.val / 4, t.val % 4]
    ∧ win0_7.index t = ![t.val / 4, 4 + t.val % 4] ∧ win0_8.index t = ![t.val / 4, 8 + t.val % 4]
    ∧ win0_9.index t = ![t.val / 4, t.val % 4] :=
  (by decide +kernel : ∀ t : Fin grid0.N, _)

/-- The gated merge's array. -/
theorem merged_array (c : Dev nD) :
    (dat0 V c).arrAt 9 cfg0.N = merged (V c main_arg1) (V c main_arg2) (V c main_arg3) (V c main_arg4) (V c main_v0)
      (V c main_v1) (V c main_v2) := by
  refine (dat0 V c).arrAt_eq_of_covers 9 _ (by decide +kernel) fun t hf y => ?_
  blk_simp
  rw [after0_9]
  unfold out0_9
  frame_out
  pointwise [k0_pay1, merged]
  blk_point [iblk0, index0 t]

/-- The norm of each token, times its weights. -/
def normed (x : Vec Ideal S24576x4096 .f32) (g : Vec Ideal S1x4096 .f32) : Vec Ideal S24576x4096 .bf16 := fun i =>
  x i * Ideal.rsqrt (Ideal.div (∑ k : Fin 4096, x (ix2 (i 0) k : S24576x4096.Idx) * x (ix2 (i 0) k : S24576x4096.Idx))
    (Ideal.ofBits .f32 0x45800000#32) + Ideal.ofBits .f32 0x358637BD#32) * g (ix2 0 (i 1) : S1x4096.Idx)

/-- The normed tokens, transposed. -/
def normedT (x : Vec Ideal S24576x4096 .f32) (g : Vec Ideal S1x4096 .f32) : Vec Ideal S4096x24576 .bf16 := fun i =>
  normed x g (ix2 (i 1) (i 0))

/-- Where the blocks of the norm stand. -/
theorem index2 : ∀ t : Fin cfg2.N, win2_0.index t = ![t.val, 0] ∧ win2_1.index t = ![0, 0]
    ∧ win2_2.index t = ![t.val, 0] ∧ win2_3.index t = ![0, t.val] :=
  (by decide +kernel : ∀ t : Fin grid2.N, _)

/-- The norm's first array. -/
theorem normed_array (c : Dev nD) : (dat2 V c).arrAt 2 cfg2.N = normed (V c main_v5) (V c main_v6) := by
  refine (dat2 V c).arrAt_eq_of_covers 2 _ (by decide +kernel) fun t hf y => ?_
  blk_simp
  rw [after2_2]
  unfold out2_2
  frame_out
  pointwise [k2_pay2, k2_pay1, normed]
  blk_point [iblk2, index2 t]

/-- The norm's second array. -/
theorem normedT_array (c : Dev nD) : (dat2 V c).arrAt 3 cfg2.N = normedT (V c main_v5) (V c main_v6) := by
  refine (dat2 V c).arrAt_eq_of_covers 3 _ (by decide +kernel) fun t hf y => ?_
  blk_simp
  rw [after2_3]
  unfold out2_3
  frame_out
  pointwise [k2_pay3, k2_pay1, normedT, normed]
  blk_point [iblk2, index2 t]

/-- The experts' queries. -/
def queries (a : Vec Ideal S24576x4096 .bf16) (w : Vec Ideal S4096x2048 .bf16) : Vec Ideal S24576x2048 .bf16 := fun i =>
  ∑ k : Fin 4096, a (ix2 (i 0) k : S24576x4096.Idx) * w (ix2 k (i 1) : S4096x2048.Idx)

/-- Where the blocks of the queries' projection stand. -/
theorem index3 : ∀ t : Fin cfg3.N, win3_0.index t = ![t.val / 2, 0] ∧ win3_1.index t = ![0, t.val % 2]
    ∧ win3_2.index t = ![t.val / 2, t.val % 2] :=
  (by decide +kernel : ∀ t : Fin grid3.N, _)

/-- The queries' array. -/
theorem queries_array (c : Dev nD) : (dat3 V c).arrAt 2 cfg3.N = queries (V c main_v7_0) (V c main_v8) := by
  refine (dat3 V c).arrAt_eq_of_covers 2 _ (by decide +kernel) fun t hf y => ?_
  blk_simp
  rw [after3_2]
  unfold out3_2
  frame_out
  pointwise [k3_pay1, queries]
  blk_point [iblk3, index3 t]

end Cert.Mm.Merge

end
-- ==== Proof.Mm.MergeRun.lean ====
module

public import proofs.«01_k».proof.Proof.Mm.Merge
public import Idealize.ShloMosaic.Adequacy
public import Idealize.ShloMosaic.Init
public import Idealize.ShloMosaic.Lib.Claim

@[expose] public section

set_option maxRecDepth 16384

noncomputable section

namespace Cert.Mm.Merge

open Cert.MergeIdeal Cert.MergeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.isDefEq.respectTransparency.types false in
/-- The run, with every array of the device memory at the end. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

variable (m : (ℓ : Loc nD τ sig) → Buf (Elt Ideal) ℓ) (ρ : Dev nD → PrngReg)

/-- The merge's weights, the output's and the queries', at the entry of their calls, are the arguments: a cast changes no
    value. -/
theorem weights_a (c : Dev nD) : V1 m ρ c main_v0 = m ((c : Thread nD τ).loc main_arg5) := by
  unfold_abbrev_sides
  after_results
  rfl
theorem weights_b (c : Dev nD) : V1 m ρ c main_v1 = m ((c : Thread nD τ).loc main_arg6) := by
  unfold_abbrev_sides
  after_results
  rfl
theorem weights_c (c : Dev nD) : V1 m ρ c main_v2 = m ((c : Thread nD τ).loc main_arg7) := by
  unfold_abbrev_sides
  after_results
  rfl
theorem weights_out (c : Dev nD) : V3 m ρ c main_v4 = m ((c : Thread nD τ).loc main_arg8) := by
  refine Eq.trans (b := W2 m ρ c (Proc.devRef .tc main_arg8)) ?_ (W2_args m ρ c main_arg8 (by simp))
  unfold_abbrev_sides
  after_results
  rfl
theorem weights_query (c : Dev nD) : V7 m ρ c main_v8 = m ((c : Thread nD τ).loc main_arg10) := by
  refine Eq.trans (b := W6 m ρ c (Proc.devRef .tc main_arg10)) ?_ (W6_args m ρ c main_arg10 (by simp))
  unfold_abbrev_sides
  after_results
  rfl

/-- The norm's weights at the entry of its call: the argument as one row. -/
theorem weights_norm (c : Dev nD) (k : Fin 4096) : (V5 m ρ c main_v6 : Vec Ideal S1x4096 .f32) (ix2 0 k)
    = (m ((c : Thread nD τ).loc main_arg9) : Vec Ideal S4096 .f32) (ix1 k) := by
  refine Eq.trans (b := (W4 m ρ c (Proc.devRef .tc main_arg9) : Vec Ideal S4096 .f32) (ix1 k)) ?_
    (congrFun (W4_args m ρ c main_arg9 (by simp)) _)
  unfold_abbrev_sides
  after_results
  pointwise

/-- The merged branches of the arguments. -/
def mergedOf (c : Dev nD) : Vec Ideal S24576x4096 .bf16 :=
  merged (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The tokens with the merged branches added. -/
def addedOf (c : Dev nD) : Vec Ideal S24576x4096 .f32 :=
  added (m ((c : Thread nD τ).loc main_arg0)) (mergedOf m c) (m ((c : Thread nD τ).loc main_arg8))

/-- What the merge's call leaves. -/
theorem merged_eq (c : Dev nD) : W2 m ρ c (Proc.devRef .tc main_v3) = mergedOf m c := by
  refine (W2_arr m ρ c 9).trans ((merged_array (V1 m ρ) c).trans ?_)
  rw [weights_a, weights_b, weights_c]
  show merged (W1 m ρ c (Proc.devRef .tc main_arg1)) (W1 m ρ c (Proc.devRef .tc main_arg2))
    (W1 m ρ c (Proc.devRef .tc main_arg3)) (W1 m ρ c (Proc.devRef .tc main_arg4)) _ _ _ = _
  rw [W1_args m ρ c main_arg1 (by simp), W1_args m ρ c main_arg2 (by simp), W1_args m ρ c main_arg3 (by simp),
    W1_args m ρ c main_arg4 (by simp)]
  rfl

/-- What the output projection's call leaves. -/
theorem added_eq (c : Dev nD) : W4 m ρ c (Proc.devRef .tc main_v5) = addedOf m c := by
  refine (W4_arr m ρ c 3).trans ((added_array (V3 m ρ) c).trans ?_)
  rw [weights_out]
  show added (W3 m ρ c (Proc.devRef .tc main_arg0)) (W3 m ρ c (Proc.devRef .tc main_v3)) _ = _
  rw [W3_args m ρ c main_arg0 (by simp), W3_of m ρ c main_v3 (by decide), merged_eq]
  rfl

/-- The tokens at the entry of the norm's call. -/
theorem norm_input (c : Dev nD) : V5 m ρ c main_v5 = addedOf m c :=
  (W5_of m ρ c main_v5 (by decide)).trans (added_eq m ρ c)

/-- What the norm's call leaves first. -/
theorem normed_eq (c : Dev nD) : W6 m ρ c (Proc.devRef .tc main_v7_0)
    = normed (addedOf m c) (V5 m ρ c main_v6) := by
  refine (W6_arr m ρ c 2).trans ((normed_array (V5 m ρ) c).trans ?_)
  rw [norm_input]

/-- The first result at the end. -/
theorem end_added (c : Dev nD) : W8 m ρ c (Proc.devRef .tc main_v5) = addedOf m c :=
  ((W8_of m ρ c main_v5 (by decide)).trans (W7_of m ρ c main_v5 (by decide))).trans
    ((W6_of m ρ c main_v5 (by decide)).trans (norm_input m ρ c))

/-- The second result at the end. -/
theorem end_normed (c : Dev nD) : W8 m ρ c (Proc.devRef .tc main_v7_0) = normed (addedOf m c) (V5 m ρ c main_v6) :=
  ((W8_of m ρ c main_v7_0 (by decide)).trans (W7_of m ρ c main_v7_0 (by decide))).trans (normed_eq m ρ c)

/-- The third result at the end. -/
theorem end_normedT (c : Dev nD) : W8 m ρ c (Proc.devRef .tc main_v7_1) = normedT (addedOf m c) (V5 m ρ c main_v6) := by
  refine ((W8_of m ρ c main_v7_1 (by decide)).trans (W7_of m ρ c main_v7_1 (by decide))).trans
    ((W6_arr m ρ c 3).trans ((normedT_array (V5 m ρ) c).trans ?_))
  rw [norm_input]

/-- The fourth result at the end. -/
theorem end_queries (c : Dev nD) : W8 m ρ c (Proc.devRef .tc main_v9)
    = queries (normed (addedOf m c) (V5 m ρ c main_v6)) (m ((c : Thread nD τ).loc main_arg10)) := by
  refine (W8_arr m ρ c 2).trans ((queries_array (V7 m ρ) c).trans ?_)
  rw [weights_query]
  show queries (W7 m ρ c (Proc.devRef .tc main_v7_0)) _ = _
  rw [W7_of m ρ c main_v7_0 (by decide), normed_eq]

end Cert.Mm.Merge

end
-- ==== Proof.Mm.MergeReference.lean ====
module

public import proofs.«01_k».proof.Proof.Gen.MergeReferenceIdeal.Read
public import proofs.«01_k».proof.Proof.Mm.Merge

@[expose] public section

set_option maxRecDepth 16384

noncomputable section

namespace Cert.Mm.Merge

open Cert.MergeReferenceIdeal Cert.MergeReferenceIdeal.Gen Cert.MergeReferenceIdeal.Read Idealize.ShloMosaic
  Idealize.ShloMosaic.TcCoe Idealize.SL.Sem

variable (x0 : (⟨S24576x4096, .f32⟩ : BufTy).Contents (Elt Ideal)) (x1 : (⟨S24576x1024, .bf16⟩ : BufTy).Contents (Elt Ideal))
  (x2 : (⟨S24576x2048, .bf16⟩ : BufTy).Contents (Elt Ideal)) (x3 : (⟨S24576x1024, .bf16⟩ : BufTy).Contents (Elt Ideal))
  (x4 : (⟨S24576x12288, .bf16⟩ : BufTy).Contents (Elt Ideal)) (x5 : (⟨S1024x4096, .f32⟩ : BufTy).Contents (Elt Ideal))
  (x6 : (⟨S2048x4096, .f32⟩ : BufTy).Contents (Elt Ideal)) (x7 : (⟨S1024x4096, .f32⟩ : BufTy).Contents (Elt Ideal))
  (x8 : (⟨S4096x4096, .f32⟩ : BufTy).Contents (Elt Ideal)) (x9 : (⟨S4096, .f32⟩ : BufTy).Contents (Elt Ideal))
  (x10 : (⟨S4096x2048, .f32⟩ : BufTy).Contents (Elt Ideal))

/-- The reference's merged branches. -/
theorem reference_merged : val_main_v14 (F := Ideal) x1 x2 x3 x4 x5 x6 x7 = merged x1 x2 x3 x4 x5 x6 x7 := by
  funext i
  unfold val_main_v14 val_main_v10 val_main_v6 val_main_v9 val_main_v13 val_main_v1 val_main_v2 val_main_v3 val_main_v5
    val_main_v8 val_main_v12 merged val_main_v0 val_main_v4 val_main_v7 val_main_v11
  pointwise

/-- The reference's tokens with the merged branches added. -/
theorem reference_added : val_main_v16 (F := Ideal) x0 x1 x2 x3 x4 x5 x6 x7 x8
    = added x0 (merged x1 x2 x3 x4 x5 x6 x7) x8 := by
  funext i
  unfold val_main_v16 val_main_v15
  rw [reference_merged]
  unfold added
  generalize merged x1 x2 x3 x4 x5 x6 x7 = a
  pointwise

/-- The reference's norm. -/
theorem reference_normed (g : Vec Ideal S1x4096 .f32) (hg : ∀ k : Fin 4096, g (ix2 0 k) = x9 (ix1 k)) :
    val_main_v29 (F := Ideal) x0 x1 x2 x3 x4 x5 x6 x7 x8 x9
      = normed (added x0 (merged x1 x2 x3 x4 x5 x6 x7) x8) g := by
  funext i
  unfold val_main_v29 val_main_v28 val_main_v27 val_main_v26 val_main_v25 val_main_v24 val_main_v23 val_main_v22 val_main_v21
    val_main_v20 val_main_v19 val_main_v18 val_main_v17 val_main_cst val_main_cst_0 val_main_cst_1
  rw [reference_added]
  unfold normed
  generalize added x0 (merged x1 x2 x3 x4 x5 x6 x7) x8 = a
  pointwise [hg]

/-- The reference's queries. -/
theorem reference_queries (g : Vec Ideal S1x4096 .f32) (hg : ∀ k : Fin 4096, g (ix2 0 k) = x9 (ix1 k)) :
    val_main_v34 (F := Ideal) x0 x1 x2 x3 x4 x5 x6 x7 x8 x9 x10
      = queries (normed (added x0 (merged x1 x2 x3 x4 x5 x6 x7) x8) g) x10 := by
  funext i
  unfold val_main_v34 val_main_v30
  rw [reference_normed (hg := hg)]
  unfold queries
  generalize normed (added x0 (merged x1 x2 x3 x4 x5 x6 x7) x8) g = a
  pointwise

/-- The reference's transposed norm. -/
theorem reference_normedT (g : Vec Ideal S1x4096 .f32) (hg : ∀ k : Fin 4096, g (ix2 0 k) = x9 (ix1 k)) :
    val_main_v33 (F := Ideal) x0 x1 x2 x3 x4 x5 x6 x7 x8 x9
      = normedT (added x0 (merged x1 x2 x3 x4 x5 x6 x7) x8) g := by
  funext i
  unfold val_main_v33 val_main_v32
  rw [reference_normed (hg := hg)]
  unfold normedT
  generalize normed (added x0 (merged x1 x2 x3 x4 x5 x6 x7) x8) g = a
  pointwise

/-- The reference's norm in the results' format. -/
theorem reference_normed_result (g : Vec Ideal S1x4096 .f32) (hg : ∀ k : Fin 4096, g (ix2 0 k) = x9 (ix1 k)) :
    val_main_v31 (F := Ideal) x0 x1 x2 x3 x4 x5 x6 x7 x8 x9
      = normed (added x0 (merged x1 x2 x3 x4 x5 x6 x7) x8) g := by
  unfold val_main_v31
  rw [reference_normed (hg := hg)]
  rfl

end Cert.Mm.Merge

end
-- ==== Proof.Mm.MergeSame.lean ====
module

public import proofs.«01_k».proof.Defs
public import proofs.«01_k».proof.Proof.Mm.MergeRun
public import proofs.«01_k».proof.Proof.Mm.MergeReference

@[expose] public section

set_option maxRecDepth 16384

noncomputable section

namespace Cert.Mm.Merge

open Idealize.ShloMosaic Idealize.ShloMosaic.TcCoe Idealize.SL.Sem

/-- The reference runs, leaves its arguments unchanged and every counter at zero (it declares no semaphore). -/
theorem reference_frame : Cert.quiescent_MergeReferenceIdeal := fun m ρ _ =>
  (θ_run Cert.MergeReferenceIdeal.defs _ _).mono
    (fun _ h => ⟨fun c => (h c).2.2.2.2, sem_eq_zero_of_no_sems (by decide) _⟩)
    (Cert.MergeReferenceIdeal.Value.run (F := Ideal) m ρ)

open Cert.MergeIdeal Cert.MergeIdeal.Gen in
/-- The kernel's run: each result, and the arguments unchanged. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = addedOf m c
      ∧ r.2.mem ((c.tc : Thread nD τ).loc main_v7_0) = normed (addedOf m c) (V5 m ρ c main_v6)
      ∧ r.2.mem ((c.tc : Thread nD τ).loc main_v7_1) = normedT (addedOf m c) (V5 m ρ c main_v6)
      ∧ r.2.mem ((c.tc : Thread nD τ).loc main_v9)
        = queries (normed (addedOf m c) (V5 m ρ c main_v6)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨(h c _ (mem_uc main_v5 (by decide))).trans (end_added m ρ c),
        (h c _ (mem_uc main_v7_0 (by decide))).trans (end_normed m ρ c),
        (h c _ (mem_uc main_v7_1 (by decide))).trans (end_normedT m ρ c),
        (h c _ (mem_uc main_v9 (by decide))).trans (end_queries m ρ c),
        (h c _ (mem_uc main_arg0 (by decide))).trans (W8_main_arg0 m ρ c),
        (h c _ (mem_uc main_arg1 (by decide))).trans (W8_main_arg1 m ρ c),
        (h c _ (mem_uc main_arg2 (by decide))).trans (W8_main_arg2 m ρ c),
        (h c _ (mem_uc main_arg3 (by decide))).trans (W8_main_arg3 m ρ c),
        (h c _ (mem_uc main_arg4 (by decide))).trans (W8_main_arg4 m ρ c),
        (h c _ (mem_uc main_arg5 (by decide))).trans (W8_main_arg5 m ρ c),
        (h c _ (mem_uc main_arg6 (by decide))).trans (W8_main_arg6 m ρ c),
        (h c _ (mem_uc main_arg7 (by decide))).trans (W8_main_arg7 m ρ c),
        (h c _ (mem_uc main_arg8 (by decide))).trans (W8_main_arg8 m ρ c),
        (h c _ (mem_uc main_arg9 (by decide))).trans (W8_main_arg9 m ρ c),
        (h c _ (mem_uc main_arg10 (by decide))).trans (W8_main_arg10 m ρ c)⟩)
    (run_all m ρ)

/-- Kernel and reference leave the same arrays. -/
theorem same_result : Cert.algebraic_MergeIdeal_MergeReferenceIdeal := by
  intro m ρ m' ρ' _ hargs
  refine ⟨_, _, _, _, run_results m ρ, ?_⟩
  refine (θ_run Cert.MergeReferenceIdeal.defs _ _).mono
    (fun _ h c => ⟨(h c).1.trans ?_, (h c).2.1.trans ?_, (h c).2.2.1.trans ?_, (h c).2.2.2.1.trans ?_, (h c).2.2.2.2⟩)
    (Cert.MergeReferenceIdeal.Value.run (F := Ideal) m' ρ')
  · refine (Cert.MergeReferenceIdeal.Read.val_main_v16_eq _ _ _ _ _ _ _ _ _).trans ?_
    rw [(hargs c).1, (hargs c).2.1, (hargs c).2.2.1, (hargs c).2.2.2.1, (hargs c).2.2.2.2.1, (hargs c).2.2.2.2.2.1,
      (hargs c).2.2.2.2.2.2.1, (hargs c).2.2.2.2.2.2.2.1, (hargs c).2.2.2.2.2.2.2.2.1]
    exact reference_added _ _ _ _ _ _ _ _ _
  · refine (Cert.MergeReferenceIdeal.Read.val_main_v31_eq m' c).trans ?_
    rw [(hargs c).1, (hargs c).2.1, (hargs c).2.2.1, (hargs c).2.2.2.1, (hargs c).2.2.2.2.1, (hargs c).2.2.2.2.2.1,
      (hargs c).2.2.2.2.2.2.1, (hargs c).2.2.2.2.2.2.2.1, (hargs c).2.2.2.2.2.2.2.2.1, (hargs c).2.2.2.2.2.2.2.2.2.1]
    exact reference_normed_result _ _ _ _ _ _ _ _ _ _ _ (weights_norm m ρ c)
  · refine (Cert.MergeReferenceIdeal.Read.val_main_v33_eq m' c).trans ?_
    rw [(hargs c).1, (hargs c).2.1, (hargs c).2.2.1, (hargs c).2.2.2.1, (hargs c).2.2.2.2.1, (hargs c).2.2.2.2.2.1,
      (hargs c).2.2.2.2.2.2.1, (hargs c).2.2.2.2.2.2.2.1, (hargs c).2.2.2.2.2.2.2.2.1, (hargs c).2.2.2.2.2.2.2.2.2.1]
    exact reference_normedT _ _ _ _ _ _ _ _ _ _ _ (weights_norm m ρ c)
  · refine (Cert.MergeReferenceIdeal.Read.val_main_v34_eq m' c).trans ?_
    rw [(hargs c).1, (hargs c).2.1, (hargs c).2.2.1, (hargs c).2.2.2.1, (hargs c).2.2.2.2.1, (hargs c).2.2.2.2.2.1,
      (hargs c).2.2.2.2.2.2.1, (hargs c).2.2.2.2.2.2.2.1, (hargs c).2.2.2.2.2.2.2.2.1, (hargs c).2.2.2.2.2.2.2.2.2.1,
      (hargs c).2.2.2.2.2.2.2.2.2.2]
    exact reference_queries _ _ _ _ _ _ _ _ _ _ _ _ (weights_norm m ρ c)

end Cert.Mm.Merge

end
-- ==== Proof.Mm.Last.lean ====
module

public import proofs.«01_k».proof.Proof.Gen.LastIdeal.Value
public import proofs.«01_k».proof.Proof.Gen.LastReferenceIdeal.Read
public import Idealize.ShloMosaic.Lib.Pipeline.ValueKit

@[expose] public section

set_option maxRecDepth 16384

noncomputable section

namespace Cert.Mm.Last

open Idealize.ShloMosaic Idealize.ShloMosaic.TcCoe Idealize.SL.Sem

section Kernel

open Cert.LastIdeal Cert.LastIdeal.Gen

/-- The tokens with the experts' output added, which comes transposed. -/
def added (x : Vec Ideal S24576x4096 .f32) (yt : Vec Ideal S4096x24576 .f32) : Vec Ideal S24576x4096 .f32 := fun i =>
  x i + yt (ix2 (i 1) (i 0) : S4096x24576.Idx)

/-- The norm of each token, times its weights. -/
def normed (x : Vec Ideal S24576x4096 .f32) (g : Vec Ideal S1x4096 .f32) : Vec Ideal S24576x4096 .f32 := fun i =>
  x i * Ideal.rsqrt (Ideal.div (∑ k : Fin 4096, x (ix2 (i 0) k : S24576x4096.Idx) * x (ix2 (i 0) k : S24576x4096.Idx))
    (Ideal.ofBits .f32 0x45800000#32) + Ideal.ofBits .f32 0x358637BD#32) * g (ix2 0 (i 1) : S1x4096.Idx)

variable (m : (ℓ : Loc nD τ sig) → Buf (Elt Ideal) ℓ)

/-- Where the blocks stand. -/
theorem index0 : ∀ t : Fin cfg0.N, win0_0.index t = ![t.val, 0] ∧ win0_1.index t = ![0, t.val]
    ∧ win0_2.index t = ![0, 0] ∧ win0_3.index t = ![t.val, 0] :=
  (by decide +kernel : ∀ t : Fin grid0.N, _)

/-- The norm's weights at the entry of the call: the argument as one row. -/
theorem weights_row (c : Dev nD) (k : Fin 4096) : (V m c main_v0 : Vec Ideal S1x4096 .f32) (ix2 0 k)
    = (m ((c : Thread nD τ).loc main_arg2) : Vec Ideal S4096 .f32) (ix1 k) := by
  unfold_abbrev_sides
  after_results
  pointwise

/-- The call's array. -/
theorem normed_array (c : Dev nD) : (dats m 0 c).arrAt 3 cfg0.N
    = normed (added (m ((c : Thread nD τ).loc main_arg0)) (m ((c : Thread nD τ).loc main_arg1))) (V m c main_v0) := by
  have e0 : V m c main_arg0 = m ((c : Thread nD τ).loc main_arg0) := by
    unfold_abbrev_sides
    after_results
  have e1 : V m c main_arg1 = m ((c : Thread nD τ).loc main_arg1) := by
    unfold_abbrev_sides
    after_results
  rw [← e0, ← e1]
  refine (dats m 0 c).arrAt_eq_of_covers 3 _ (by decide +kernel) fun t hf y => ?_
  blk_simp
  rw [after0_3]
  unfold out0_3
  frame_out
  pointwise [k0_pay1, normed, added]
  blk_point [iblk, index0 t]

end Kernel

section Reference

open Cert.LastReferenceIdeal Cert.LastReferenceIdeal.Gen Cert.LastReferenceIdeal.Read

/-- The reference's result. -/
theorem reference_normed (x0 : (⟨S24576x4096, .f32⟩ : BufTy).Contents (Elt Ideal))
    (x1 : (⟨S4096x24576, .f32⟩ : BufTy).Contents (Elt Ideal)) (x2 : (⟨S4096, .f32⟩ : BufTy).Contents (Elt Ideal))
    (g : Vec Ideal S1x4096 .f32) (hg : ∀ k : Fin 4096, g (ix2 0 k) = x2 (ix1 k)) :
    val_main_v14 (F := Ideal) x0 x1 x2 = normed (added x0 x1) g := by
  have e : val_main_v1 (F := Ideal) x0 x1 = added x0 x1 := by
    funext i
    unfold val_main_v1 val_main_v0 added
    pointwise
  funext i
  unfold val_main_v14 val_main_v13 val_main_v12 val_main_v11 val_main_v10 val_main_v9 val_main_v8 val_main_v7 val_main_v6
    val_main_v5 val_main_v4 val_main_v3 val_main_v2 val_main_cst val_main_cst_0 val_main_cst_1
  rw [e]
  unfold normed
  generalize added x0 x1 = a
  pointwise [hg]

end Reference

end Cert.Mm.Last

end
-- ==== Proof.Mm.LastSame.lean ====
module

public import proofs.«01_k».proof.Defs
public import proofs.«01_k».proof.Proof.Mm.Last
public import proofs.«01_k».proof.Proof.Gen.LastIdeal.Value
public import proofs.«01_k».proof.Proof.Gen.LastReferenceIdeal.Run
public import proofs.«01_k».proof.Proof.Gen.LastReferenceIdeal.Read

@[expose] public section

set_option maxRecDepth 16384

noncomputable section

namespace Cert.Mm.Last

open Idealize.ShloMosaic Idealize.ShloMosaic.TcCoe Idealize.SL.Sem

/-- The reference runs, leaves its arguments unchanged and every counter at zero (it declares no semaphore). -/
theorem reference_frame : Cert.quiescent_LastReferenceIdeal := fun m ρ _ =>
  (θ_run Cert.LastReferenceIdeal.defs _ _).mono
    (fun _ h => ⟨fun c => (h c).2, sem_eq_zero_of_no_sems (by decide) _⟩)
    (Cert.LastReferenceIdeal.Value.run (F := Ideal) m ρ)

/-- Kernel and reference leave the same array. -/
theorem same_result : Cert.algebraic_LastIdeal_LastReferenceIdeal := by
  intro m ρ m' ρ' _ hargs
  refine ⟨fun c => normed (added (m ((c : Thread Cert.LastIdeal.nD Cert.LastIdeal.τ).loc Cert.LastIdeal.main_arg0))
    (m ((c : Thread Cert.LastIdeal.nD Cert.LastIdeal.τ).loc Cert.LastIdeal.main_arg1))) (Cert.LastIdeal.Gen.V m c Cert.LastIdeal.main_v0), ?_, ?_⟩
  · exact (θ_run Cert.LastIdeal.defs _ _).mono (fun _ h c => ⟨(h c).1.trans (normed_array m c), (h c).2⟩)
      (Cert.LastIdeal.Value.run_blocks (F := Ideal) m ρ)
  · refine (θ_run Cert.LastReferenceIdeal.defs _ _).mono (fun _ h c => ⟨(h c).1.trans ?_, (h c).2⟩)
      (Cert.LastReferenceIdeal.Value.run (F := Ideal) m' ρ')
    refine (Cert.LastReferenceIdeal.Read.val_main_v14_eq _ _ _).trans ?_
    rw [(hargs c).1, (hargs c).2.1, (hargs c).2.2]
    exact reference_normed _ _ _ _ (weights_row m c)

end Cert.Mm.Last

end
-- ==== Proof.Mm.Fourier.lean ====
module

public import proofs.«01_k».proof.Proof.Gen.FourierIdeal.Value
public import Idealize.ShloMosaic.Lib.Pipeline.ValueKit

@[expose] public section

set_option maxRecDepth 16384

noncomputable section

namespace Cert.Mm.Fourier

open Cert.FourierIdeal Cert.FourierIdeal.Gen
open Idealize.ShloMosaic Idealize.ShloMosaic.TcCoe Idealize.SL.Sem

/-- Channel `c` of the group of channels that channel `n` is in. -/
abbrev inGroup (n : Fin 1024) (c : Fin 256) : Fin 1024 := ⟨n.val / 256 * 256 + c.val, by omega⟩

/-- The place of channel `n` in its group. -/
abbrev place (n : Fin 1024) : Fin 256 := ⟨n.val % 256, by omega⟩

/-- One product of the position table with the tokens and the channel table. -/
def twice (x : Fin 2048 → Fin 1024 → Ideal .bf16) (p : Fin 2048 → Ideal .bf16) (q : Fin 256 → Fin 256 → Ideal .bf16)
    (n : Fin 1024) : Ideal .bf16 :=
  ∑ c : Fin 256, (∑ t : Fin 2048, p t * x t (inGroup n c)) * q c (place n)

/-- The mixed tokens: along positions, then along the channels of each group, the cosines' product less the sines'. -/
def mixed (x : Vec Ideal S12x2048x1024 .bf16) (cs ss : Vec Ideal S2048x2048 .bf16) (cc sc : Vec Ideal S256x256 .bf16) :
    Vec Ideal S12x2048x1024 .bf16 := fun i =>
  twice (fun t n => x (ix3 (i 0) t n : S12x2048x1024.Idx)) (fun t => cs (ix2 (i 1) t : S2048x2048.Idx))
      (fun c d => cc (ix2 c d : S256x256.Idx)) (i 2)
    - twice (fun t n => x (ix3 (i 0) t n : S12x2048x1024.Idx)) (fun t => ss (ix2 (i 1) t : S2048x2048.Idx))
      (fun c d => sc (ix2 c d : S256x256.Idx)) (i 2)

/-- One block of the output: four groups of channels side by side. -/
theorem block_apply (x0 : Vec Ideal S1x2048x1024 .bf16) (x1 x2 : Vec Ideal S512x2048 .bf16) (x3 x4 : Vec Ideal S256x256 .bf16)
    (y : S1x512x1024.Idx) : out0_5 x0 x1 x2 x3 x4 y
      = twice (fun t n => x0 (ix3 0 t n : S1x2048x1024.Idx)) (fun t => x1 (ix2 (y 1) t : S512x2048.Idx))
          (fun c d => x3 (ix2 c d : S256x256.Idx)) (y 2)
        - twice (fun t n => x0 (ix3 0 t n : S1x2048x1024.Idx)) (fun t => x2 (ix2 (y 1) t : S512x2048.Idx))
          (fun c d => x4 (ix2 c d : S256x256.Idx)) (y 2) := by
  unfold_out out0_5
  canon_tiles x h
  all_goals
    open_payloads
    pointwise [twice]
    have e1 : (y 1 : Fin 512) = x 1 := Fin.ext h1
    have e2 : place (y 2) = x 2 := Fin.ext (by show (y 2).val % 256 = (x 2).val; omega)
    rw [e1, e2]
    refine congrArg₂ (· - ·) (Finset.sum_congr rfl fun c _ => congrArg (· * _) (Finset.sum_congr rfl fun t _ => ?_))
      (Finset.sum_congr rfl fun c _ => congrArg (· * _) (Finset.sum_congr rfl fun t _ => ?_))
    all_goals
      refine congrArg (fun k : Fin 1024 => _ * x0 (ix3 0 t k : S1x2048x1024.Idx)) (Fin.ext ?_)
      show _ = (y 2).val / 256 * 256 + c.val
      have := c.isLt
      simp only []
      omega

/-- Where the blocks stand. -/
theorem index0 : ∀ t : Fin cfg0.N, win0_0.index t = ![t.val / 4, 0, 0] ∧ win0_1.index t = ![t.val % 4, 0]
    ∧ win0_2.index t = ![t.val % 4, 0] ∧ win0_3.index t = ![0, 0] ∧ win0_4.index t = ![0, 0]
    ∧ win0_5.index t = ![t.val / 4, t.val % 4, 0] :=
  (by decide +kernel : ∀ t : Fin grid0.N, _)

variable (m : (ℓ : Loc nD τ sig) → Buf (Elt Ideal) ℓ)

/-- The sequence a block belongs to. -/
abbrev seqOf (t : Fin cfg0.N) : Fin 12 := ⟨t.val / 4, by have h : t.val < 48 := t.isLt; omega⟩

/-- The position of a block's row. -/
abbrev rowOf (t : Fin cfg0.N) (r : Fin 512) : Fin 2048 := ⟨t.val % 4 * 512 + r.val, by omega⟩

/-- The tokens' block: one sequence. -/
theorem read0 (t : Fin cfg0.N) (v : Vec Ideal S12x2048x1024 .bf16) (a : Fin 2048) (n : Fin 1024) :
    (((cfg0.win 0).blk t).view.read (Elt Ideal) v : Vec Ideal S1x2048x1024 .bf16) (ix3 0 a n) = v (ix3 (seqOf t) a n) := by
  blk_ext! [index0 t]

/-- The block of the positions' cosines: some rows. -/
theorem read1 (t : Fin cfg0.N) (v : Vec Ideal S2048x2048 .bf16) (r : Fin 512) (a : Fin 2048) :
    (((cfg0.win 1).blk t).view.read (Elt Ideal) v : Vec Ideal S512x2048 .bf16) (ix2 r a) = v (ix2 (rowOf t r) a) := by
  blk_ext! [index0 t]
/-- The block of the positions' sines: some rows. -/
theorem read2 (t : Fin cfg0.N) (v : Vec Ideal S2048x2048 .bf16) (r : Fin 512) (a : Fin 2048) :
    (((cfg0.win 2).blk t).view.read (Elt Ideal) v : Vec Ideal S512x2048 .bf16) (ix2 r a) = v (ix2 (rowOf t r) a) := by
  blk_ext! [index0 t]

/-- The block of the channels' cosines: the table. -/
theorem read3 (t : Fin cfg0.N) (v : Vec Ideal S256x256 .bf16) (k d : Fin 256) :
    (((cfg0.win 3).blk t).view.read (Elt Ideal) v : Vec Ideal S256x256 .bf16) (ix2 k d) = v (ix2 k d) := by
  blk_ext! [index0 t]
/-- The block of the channels' sines: the table. -/
theorem read4 (t : Fin cfg0.N) (v : Vec Ideal S256x256 .bf16) (k d : Fin 256) :
    (((cfg0.win 4).blk t).view.read (Elt Ideal) v : Vec Ideal S256x256 .bf16) (ix2 k d) = v (ix2 k d) := by
  blk_ext! [index0 t]

/-- The output's block: some positions of one sequence. -/
theorem read5 (t : Fin cfg0.N) (v : Vec Ideal S12x2048x1024 .bf16) (y : S1x512x1024.Idx) :
    (((cfg0.win 5).blk t).view.read (Elt Ideal) v : Vec Ideal S1x512x1024 .bf16) y
      = v (ix3 (seqOf t) (rowOf t (y 1)) (y 2)) := by
  blk_ext! [index0 t]

/-- One block of the output, over the arrays it is read from. -/
theorem block_mixed (t : Fin cfg0.N) (x : Vec Ideal S12x2048x1024 .bf16) (cs ss : Vec Ideal S2048x2048 .bf16)
    (cc sc : Vec Ideal S256x256 .bf16) (y : S1x512x1024.Idx) :
    out0_5 (F := Ideal) (((cfg0.win 0).blk t).view.read (Elt Ideal) x) (((cfg0.win 1).blk t).view.read (Elt Ideal) cs)
      (((cfg0.win 2).blk t).view.read (Elt Ideal) ss) (((cfg0.win 3).blk t).view.read (Elt Ideal) cc)
      (((cfg0.win 4).blk t).view.read (Elt Ideal) sc) y
      = (((cfg0.win 5).blk t).view.read (Elt Ideal) (mixed x cs ss cc sc) : Vec Ideal S1x512x1024 .bf16) y := by
  refine (block_apply _ _ _ _ _ y).trans (Eq.trans ?_ (read5 t _ y).symm)
  unfold mixed twice
  refine congrArg₂ (· - ·) ?_ ?_
  all_goals
    refine Finset.sum_congr rfl fun k _ => congrArg₂ (· * ·) (Finset.sum_congr rfl fun a _ => congrArg₂ (· * ·) ?_ ?_) ?_
    all_goals
      first
        | exact read0 t x a _
        | exact read1 t cs (y 1) a
        | exact read2 t ss (y 1) a
        | exact read3 t cc k _
        | exact read4 t sc k _

/-- The call's array. -/
theorem mixed_array (c : Dev nD) (A : Vec Ideal S12x2048x1024 .bf16) (B1 B2 : Vec Ideal S2048x2048 .bf16)
    (B3 B4 : Vec Ideal S256x256 .bf16) (e0 : V m c main_arg0 = A) (e1 : V m c main_v13 = B1) (e2 : V m c main_v17 = B2)
    (e3 : V m c main_v31 = B3) (e4 : V m c main_v35 = B4) : (dats m 0 c).arrAt 5 cfg0.N = mixed A B1 B2 B3 B4 := by
  refine (dats m 0 c).arrAt_eq_of_covers 5 _ (by decide +kernel) fun t hf y => ?_
  blk_simp
  have b0 : iblk m c 0 t = ((cfg0.win 0).blk t).view.read (Elt Ideal) A :=
    congrArg (((cfg0.win 0).blk t).view.read (Elt Ideal)) e0
  have b1 : iblk m c 1 t = ((cfg0.win 1).blk t).view.read (Elt Ideal) B1 :=
    congrArg (((cfg0.win 1).blk t).view.read (Elt Ideal)) e1
  have b2 : iblk m c 2 t = ((cfg0.win 2).blk t).view.read (Elt Ideal) B2 :=
    congrArg (((cfg0.win 2).blk t).view.read (Elt Ideal)) e2
  have b3 : iblk m c 3 t = ((cfg0.win 3).blk t).view.read (Elt Ideal) B3 :=
    congrArg (((cfg0.win 3).blk t).view.read (Elt Ideal)) e3
  have b4 : iblk m c 4 t = ((cfg0.win 4).blk t).view.read (Elt Ideal) B4 :=
    congrArg (((cfg0.win 4).blk t).view.read (Elt Ideal)) e4
  rw [after0_5, b0, b1, b2, b3, b4]
  refine Eq.trans (block_mixed t A B1 B2 B3 B4 y) ?_
  generalize mixed A B1 B2 B3 B4 = G
  rfl

end Cert.Mm.Fourier

end
-- ==== Proof.Mm.FourierTables.lean ====
module

public import proofs.«01_k».proof.Proof.Mm.Fourier
public import proofs.«01_k».proof.Proof.Gen.FourierReferenceIdeal.Read

@[expose] public section

set_option maxRecDepth 16384

noncomputable section

namespace Cert.Mm.Fourier

open Cert.FourierIdeal Cert.FourierIdeal.Gen
open Idealize.ShloMosaic Idealize.ShloMosaic.TcCoe Idealize.SL.Sem

variable (m : (ℓ : Loc nD τ sig) → Buf (Elt Ideal) ℓ)

/-- The positions' cosines, scaled, at the entry of the call. -/
theorem pos_cos (c : Dev nD) : (V m c main_v13 : Vec Ideal S2048x2048 .bf16)
    = fun i => Cert.FourierReferenceIdeal.Read.val_main_v37 (F := Ideal) i * Ideal.ofBits .f32 0x3CB504F3#32 := by
  unfold_abbrev_sides
  simp only [List.flatten_cons, List.flatten_nil, List.append_nil, List.cons_append, List.nil_append]
  after_results
  rfl

/-- The positions' sines, scaled, at the entry of the call. -/
theorem pos_sin (c : Dev nD) : (V m c main_v17 : Vec Ideal S2048x2048 .bf16)
    = fun i => Cert.FourierReferenceIdeal.Read.val_main_v50 (F := Ideal) i * Ideal.ofBits .f32 0x3CB504F3#32 := by
  unfold_abbrev_sides
  simp only [List.flatten_cons, List.flatten_nil, List.append_nil, List.cons_append, List.nil_append]
  after_results
  rfl

/-- The channels' cosines, scaled, at the entry of the call. -/
theorem chan_cos (c : Dev nD) : (V m c main_v31 : Vec Ideal S256x256 .bf16)
    = fun i => Cert.FourierReferenceIdeal.Read.val_main_v12 (F := Ideal) i * Ideal.ofBits .f32 0x3D800000#32 := by
  unfold_abbrev_sides
  simp only [List.flatten_cons, List.flatten_nil, List.append_nil, List.cons_append, List.nil_append]
  after_results
  rfl

/-- The channels' sines, scaled, at the entry of the call. -/
theorem chan_sin (c : Dev nD) : (V m c main_v35 : Vec Ideal S256x256 .bf16)
    = fun i => Cert.FourierReferenceIdeal.Read.val_main_v24 (F := Ideal) i * Ideal.ofBits .f32 0x3D800000#32 := by
  unfold_abbrev_sides
  simp only [List.flatten_cons, List.flatten_nil, List.append_nil, List.cons_append, List.nil_append]
  after_results
  rfl

end Cert.Mm.Fourier

end
-- ==== Proof.Mm.FourierSame.lean ====
module

public import proofs.«01_k».proof.Defs
public import proofs.«01_k».proof.Proof.Na.Finite
public import proofs.«01_k».proof.Proof.Mm.FourierTables
public import proofs.«01_k».proof.Proof.Gen.FourierReferenceIdeal.Run

@[expose] public section

set_option maxRecDepth 16384

noncomputable section

namespace Cert.Mm.Fourier

open Idealize.ShloMosaic Idealize.ShloMosaic.TcCoe Idealize.SL.Sem

section Reals

/-- Channels first and scaled at the end, or positions first with each table scaled: the same number, all entries being
    real. -/
theorem order (x : Fin 2048 → Fin 256 → ℝ) (p q : Fin 2048 → ℝ) (a b : Fin 256 → ℝ) (κ μ : ℝ) :
    ((∑ c, (∑ t, ((p t : EReal) * κ) * x t c) * ((a c : EReal) * μ))
        - ∑ c, (∑ t, ((q t : EReal) * κ) * x t c) * ((b c : EReal) * μ))
      = ((∑ t, (∑ c, (x t c : EReal) * a c) * p t) + ∑ t, (-(∑ c, (x t c : EReal) * b c)) * q t)
        * ((κ * μ : ℝ) : EReal) := by
  simp only [← EReal.coe_mul, Cert.Na.sum_real, ← EReal.coe_neg, ← EReal.coe_sub, ← EReal.coe_add]
  refine congrArg _ ?_
  have h : ∀ (r : Fin 2048 → ℝ) (d : Fin 256 → ℝ),
      ∑ c, (∑ t, r t * κ * x t c) * (d c * μ) = (∑ t, (∑ c, x t c * d c) * r t) * (κ * μ) := fun r d => by
    simp only [Finset.sum_mul]
    rw [Finset.sum_comm]
    exact Finset.sum_congr rfl fun t _ => Finset.sum_congr rfl fun c _ => by ring
  rw [h, h, add_mul, sub_eq_add_neg]
  refine congrArg _ ?_
  simp only [neg_mul, Finset.sum_neg_distrib]

/-- The two scales: the reference's is their product. -/
theorem scale_pos : ∃ κ : ℝ, Ideal.ofBits .f32 0x3CB504F3#32 = κ
    ∧ Ideal.ofBits .f32 0x3AB504F3#32 = ((κ * (1 / 16) : ℝ) : EReal) := by
  refine ⟨11863283 / 536870912, ?_, ?_⟩
  · simp [Ideal.ofBits, Ideal.ieee]
    rw [← EReal.coe_mul]
    norm_num
  · simp [Ideal.ofBits, Ideal.ieee]
    rw [← EReal.coe_mul, ← EReal.coe_mul]
    norm_num

/-- The channels' scale is a sixteenth. -/
theorem scale_chan : Ideal.ofBits .f32 0x3D800000#32 = ((1 / 16 : ℝ) : EReal) := by
  simp [Ideal.ofBits, Ideal.ieee]
  rw [← EReal.coe_mul]
  norm_num

end Reals

section Reference

open Cert.FourierReferenceIdeal Cert.FourierReferenceIdeal.Gen Cert.FourierReferenceIdeal.Read

/-- A phase is real: a whole number times a constant. -/
theorem phase_real (z : BitVec 32) (k : BitVec 32) (hk : ∃ r : ℝ, Ideal.ofBits .f32 k = r) :
    ∃ r : ℝ, FloatOps.mulf (F := Ideal) (φ := .f32) (FloatOps.sitofp .f32 z) (Ideal.ofBits .f32 k) = (r : EReal) := by
  obtain ⟨r, hr⟩ := hk
  exact ⟨(z.toInt : ℝ) * r, by rw [hr, EReal.coe_mul]; rfl⟩

/-- The constant the positions' phases are multiples of is real. -/
theorem step_pos : ∃ r : ℝ, Ideal.ofBits .f32 0x3B490FDB#32 = r :=
  ⟨_, by simp [Ideal.ofBits, Ideal.ieee]; rw [← EReal.coe_mul]⟩
/-- And the constant of the channels' phases. -/
theorem step_chan : ∃ r : ℝ, Ideal.ofBits .f32 0x3CC90FDB#32 = r :=
  ⟨_, by simp [Ideal.ofBits, Ideal.ieee]; rw [← EReal.coe_mul]⟩

/-- The positions' cosines are real: cosines of real phases. -/
theorem pos_cos_real (i : S2048x2048.Idx) : ∃ r : ℝ, (val_main_v37 (F := Ideal) i : EReal) = r := by
  obtain ⟨r, hr⟩ := phase_real (val_main_v33 (F := Ideal) i) _ step_pos
  rw [val_main_v37_apply,
    show val_main_v36 (F := Ideal) i = (r : EReal)
      from Eq.trans (by rw [val_main_v36_apply, val_main_v35_apply]; rfl) hr]
  exact ⟨Real.cos r, Ideal.cos_coe r⟩
/-- The positions' sines are real. -/
theorem pos_sin_real (i : S2048x2048.Idx) : ∃ r : ℝ, (val_main_v50 (F := Ideal) i : EReal) = r := by
  obtain ⟨r, hr⟩ := phase_real (val_main_v46 (F := Ideal) i) _ step_pos
  rw [val_main_v50_apply,
    show val_main_v49 (F := Ideal) i = (r : EReal)
      from Eq.trans (by rw [val_main_v49_apply, val_main_v48_apply]; rfl) hr]
  exact ⟨Real.sin r, Ideal.sin_coe r⟩
/-- The channels' cosines are real. -/
theorem chan_cos_real (i : S256x256.Idx) : ∃ r : ℝ, (val_main_v12 (F := Ideal) i : EReal) = r := by
  obtain ⟨r, hr⟩ := phase_real (val_main_v8 (F := Ideal) i) _ step_chan
  rw [val_main_v12_apply,
    show val_main_v11 (F := Ideal) i = (r : EReal)
      from Eq.trans (by rw [val_main_v11_apply, val_main_v10_apply]; rfl) hr]
  exact ⟨Real.cos r, Ideal.cos_coe r⟩
/-- The channels' sines are real. -/
theorem chan_sin_real (i : S256x256.Idx) : ∃ r : ℝ, (val_main_v24 (F := Ideal) i : EReal) = r := by
  obtain ⟨r, hr⟩ := phase_real (val_main_v20 (F := Ideal) i) _ step_chan
  rw [val_main_v24_apply,
    show val_main_v23 (F := Ideal) i = (r : EReal)
      from Eq.trans (by rw [val_main_v23_apply, val_main_v22_apply]; rfl) hr]
  exact ⟨Real.sin r, Ideal.sin_coe r⟩

/-- The reference's result. -/
theorem reference_result (x0 : (⟨S12x2048x1024, .bf16⟩ : BufTy).Contents (Elt Ideal)) (b : Fin 12) (s : Fin 2048)
    (n : Fin 1024) : val_main_v57 (F := Ideal) x0 (ix3 b s n)
      = ((∑ t : Fin 2048, (∑ c : Fin 256, x0 (ix3 b t (inGroup n c)) * val_main_v12 (F := Ideal) (ix2 c (place n)))
            * val_main_v37 (F := Ideal) (ix2 s t))
          + ∑ t : Fin 2048, (-(∑ c : Fin 256, x0 (ix3 b t (inGroup n c)) * val_main_v24 (F := Ideal) (ix2 c (place n))))
            * val_main_v50 (F := Ideal) (ix2 s t))
        * Ideal.ofBits .f32 0x3AB504F3#32 := by
  unfold val_main_v57 val_main_v56 val_main_v55 val_main_v54 val_main_v53 val_main_v52 val_main_v51 val_main_v39 val_main_v38
    val_main_v26 val_main_v25 val_main_v13 val_main_v1 val_main_v0 val_main_cst_6
  generalize val_main_v12 (F := Ideal) = A
  generalize val_main_v24 (F := Ideal) = B
  generalize val_main_v37 (F := Ideal) = P
  generalize val_main_v50 (F := Ideal) = Q
  pointwise

end Reference

/-- The reference runs, leaves its arguments unchanged and every counter at zero (it declares no semaphore). -/
theorem reference_frame : Cert.quiescent_FourierReferenceIdeal := fun m ρ _ =>
  (θ_run Cert.FourierReferenceIdeal.defs _ _).mono
    (fun _ h => ⟨fun c => (h c).2, sem_eq_zero_of_no_sems (by decide) _⟩)
    (Cert.FourierReferenceIdeal.Value.run (F := Ideal) m ρ)

/-- The side conditions of the precondition's operations. -/
theorem channels_facts : Cert.Pre_channels_finite.Facts where
  bitsLt_bf16_f32 := by decide +kernel
  bcast_S_S12x2048x1024 := by decide +kernel

/-- The precondition makes the channels real. -/
theorem channels_real [Cert.Pre_channels_finite.Facts] (x0 : Vec Ideal Cert.FourierIdeal.S12x2048x1024 .bf16)
    (h : (Cert.Pre_channels_finite.fn (F := Ideal) x0) = fun _ => 1#1) (b : Fin 12) (s : Fin 2048) (n : Fin 1024) :
    ∃ r : ℝ, (x0 (ix3 b s n) : EReal) = r := by
  have h' := congrFun h (ix3 b s n)
  unfold Cert.Pre_channels_finite.fn at h'
  refine Cert.Na.real_of_lt (Eq.trans ?_ h')
  pointwise
  rfl

open Cert.FourierReferenceIdeal.Read in
/-- With real channels, the kernel's result over its scaled tables is the reference's. -/
theorem mixed_eq (x0 : Vec Ideal Cert.FourierIdeal.S12x2048x1024 .bf16)
    (hx : ∀ (b : Fin 12) (s : Fin 2048) (n : Fin 1024), ∃ r : ℝ, (x0 (ix3 b s n) : EReal) = r) :
    mixed x0 (fun i => val_main_v37 (F := Ideal) i * Ideal.ofBits .f32 0x3CB504F3#32)
      (fun i => val_main_v50 (F := Ideal) i * Ideal.ofBits .f32 0x3CB504F3#32)
      (fun i => val_main_v12 (F := Ideal) i * Ideal.ofBits .f32 0x3D800000#32)
      (fun i => val_main_v24 (F := Ideal) i * Ideal.ofBits .f32 0x3D800000#32)
      = val_main_v57 (F := Ideal) x0 := by
  funext i
  obtain ⟨b, s, n, rfl⟩ : ∃ (b : Fin 12) (s : Fin 2048) (n : Fin 1024),
      i = (ix3 b s n : Cert.FourierIdeal.S12x2048x1024.Idx) := ⟨i 0, i 1, i 2, eq_ix3 _⟩
  refine Eq.trans ?_ (reference_result x0 b s n).symm
  obtain ⟨κ, hκ, hγ⟩ := scale_pos
  choose X hX using hx
  choose P hP using pos_cos_real
  choose Q hQ using pos_sin_real
  choose A hA using chan_cos_real
  choose B hB using chan_sin_real
  rw [hγ]
  refine Eq.trans ?_ (Eq.trans (order (fun t c => X b t (inGroup n c)) (fun t => P (ix2 s t)) (fun t => Q (ix2 s t))
    (fun c => A (ix2 c (place n))) (fun c => B (ix2 c (place n))) κ (1 / 16)) ?_)
  · simp only [← hX, ← hP, ← hQ, ← hA, ← hB, ← hκ, ← scale_chan]
    rfl
  · simp only [← hX, ← hP, ← hQ, ← hA, ← hB]

/-- Kernel and reference leave the same array. -/
theorem same_result :
    Cert.algebraic_FourierIdeal_FourierReferenceIdeal_pre_channels_finite (hPre_channels_finite := channels_facts) := by
  intro m ρ m' ρ' hpre hargs
  have := channels_facts
  refine ⟨fun c => Cert.FourierReferenceIdeal.Read.val_main_v57 (F := Ideal)
    (m ((c : Thread Cert.FourierIdeal.nD Cert.FourierIdeal.τ).loc Cert.FourierIdeal.main_arg0)), ?_, ?_⟩
  · refine (θ_run Cert.FourierIdeal.defs _ _).mono (fun _ h c => ⟨(h c).1.trans ?_, (h c).2⟩)
      (Cert.FourierIdeal.Value.run_blocks (F := Ideal) m ρ)
    exact (mixed_array m c _ _ _ _ _ (Cert.FourierIdeal.Gen.V_main_arg0 m c) (pos_cos m c) (pos_sin m c) (chan_cos m c)
      (chan_sin m c)).trans (mixed_eq _ (channels_real _ (hpre c)))
  · refine (θ_run Cert.FourierReferenceIdeal.defs _ _).mono (fun _ h c => ⟨(h c).1.trans ?_, (h c).2⟩)
      (Cert.FourierReferenceIdeal.Value.run (F := Ideal) m' ρ')
    refine (Cert.FourierReferenceIdeal.Read.val_main_v57_eq _ _).trans ?_
    rw [hargs c]

end Cert.Mm.Fourier

end
-- ==== Proof.lean ====
/-
  The certificate of five of the kernel's programs. The runs of the kernel's text are generated; the values are proved here.

  Proof/Na, the neighbourhood attention: what one row holds (Row, RowIdeal), what a block holds (Band), the host's bias
  table (Toep, Bias), what the result array holds (Whole), what the reference computes (Gather, Reference), and the
  precondition (Finite).

  Proof/Mm, the other programs. Three of matrix products and norms, each with what its calls leave, what its whole run
  leaves, what its reference computes and the two together: the projections of the normed tokens (ProjectNorm, Project,
  ProjectGate, ProjectRun, ProjectReference, Gates, ProjectSame), the merge of the branches with the second norm and the
  queries (Merge, MergeRun, MergeReference, MergeSame), and the last norm (Last, LastSame). And the Fourier mixer: what its
  call leaves (Fourier), its host's tables (FourierTables), what its reference computes and the two together (FourierSame).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Na.Finite
public import proofs.«01_k».proof.Proof.Na.Reference
public import proofs.«01_k».proof.Proof.Mm.ProjectSame
public import proofs.«01_k».proof.Proof.Mm.MergeSame
public import proofs.«01_k».proof.Proof.Mm.LastSame
public import proofs.«01_k».proof.Proof.Mm.FourierSame
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.ProjectReferenceIdeal.Read
public import proofs.«01_k».proof.Proof.Gen.Merge.Frame
public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Gen.Last.Frame
public import proofs.«01_k».proof.Proof.Gen.LastIdeal.Frame
public import proofs.«01_k».proof.Proof.Gen.LastIdeal.Value
public import proofs.«01_k».proof.Proof.Gen.LastReferenceIdeal.Run
public import proofs.«01_k».proof.Proof.Gen.LastReferenceIdeal.Read
public import proofs.«01_k».proof.Proof.Gen.Fourier.Frame
public import proofs.«01_k».proof.Proof.Gen.FourierIdeal.Frame
public import proofs.«01_k».proof.Proof.Gen.FourierIdeal.Value
public import proofs.«01_k».proof.Proof.Gen.FourierReferenceIdeal.Run
public import proofs.«01_k».proof.Proof.Gen.FourierReferenceIdeal.Read
public import Idealize.ShloMosaic.Adequacy
public import Idealize.ShloMosaic.Init

@[expose] public section

noncomputable section

namespace Cert.Proof

open Idealize.ShloMosaic Idealize.ShloMosaic.TcCoe Idealize.SL.Sem Cert.Na

/-- The reference runs, leaves its arguments unchanged and every counter at zero (it declares no semaphore). -/
theorem reference_frame : Cert.quiescent_ReferenceIdeal := fun m ρ _ =>
  (θ_run Cert.ReferenceIdeal.defs _ _).mono
    (fun _ h => ⟨fun c => (h c).2, sem_eq_zero_of_no_sems (by decide) _⟩) (Cert.ReferenceIdeal.Value.run (F := Ideal) m ρ)

/-- The reference's result array is neighbourhood attention. -/
theorem reference_eq (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v78 m c
      = resultOf (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1)) := by
  rw [Cert.ReferenceIdeal.Read.val_main_v78_eq]
  funext i
  obtain ⟨b, s, l, rfl⟩ : ∃ (b : Fin 12) (s : Fin 2048) (l : Fin 1024),
      i = (ix3 b s l : Cert.ReferenceIdeal.S12x2048x1024.Idx) := ⟨i 0, i 1, i 2, eq_ix3 _⟩
  exact reference_at _ _ b s l

/-- Kernel and reference leave the same array. -/
theorem same_result : Cert.algebraic_KernelIdeal_ReferenceIdeal_pre_scores_finite (hPre_scores_finite := scores_facts) := by
  intro m g m' g' hpre hargs
  have := scores_facts
  refine ⟨fun c => resultOf (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · exact (θ_run Cert.KernelIdeal.defs _ _).mono
      (fun _ h c => ⟨(h c).1.trans (array_eq m (fun c => entries_real _ _ (hpre c).1) (fun c => biases_real _ _ (hpre c).2) c),
        (h c).2⟩) (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [reference_eq, (hargs c).1, (hargs c).2]

/-- All the claims. -/
theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  Cert.Merge.Gen.facts, Cert.MergeIdeal.Gen.facts, Cert.MergeReferenceIdeal.Gen.facts,
  Cert.Last.Gen.facts, Cert.LastIdeal.Gen.facts, Cert.LastReferenceIdeal.Gen.facts,
  Cert.Fourier.Gen.facts, Cert.FourierIdeal.Gen.facts, Cert.FourierReferenceIdeal.Gen.facts,
  scores_facts, Cert.Mm.Project.gates_facts, Cert.Mm.Fourier.channels_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Project.Gen.frame m ρ,
  fun m ρ _ => Cert.ProjectIdeal.Gen.frame m ρ,
  fun m ρ _ => Cert.ProjectIdeal.Gen.frame m ρ,
  Cert.Mm.Project.reference_frame,
  fun m ρ _ => Cert.Mm.Project.reference_frame m ρ trivial,
  fun m ρ _ => Cert.Merge.Gen.frame m ρ,
  fun m ρ _ => Cert.MergeIdeal.Gen.frame m ρ,
  Cert.Mm.Merge.reference_frame,
  fun m ρ _ => Cert.Last.Gen.frame m ρ,
  fun m ρ _ => Cert.LastIdeal.Gen.frame m ρ,
  Cert.Mm.Last.reference_frame,
  fun m ρ _ => Cert.Fourier.Gen.frame m ρ,
  fun m ρ _ => Cert.FourierIdeal.Gen.frame m ρ,
  fun m ρ _ => Cert.FourierIdeal.Gen.frame m ρ,
  Cert.Mm.Fourier.reference_frame,
  fun m ρ _ => Cert.Mm.Fourier.reference_frame m ρ trivial,
  trivial,
  same_result,
  IdealRules.named_const.statement _ _ _ _ _ rfl,
  Cert.Mm.Project.same_result,
  trivial,
  Cert.Mm.Merge.same_result,
  trivial,
  Cert.Mm.Last.same_result,
  trivial,
  Cert.Mm.Fourier.same_result⟩

end Cert.Proof

end
